-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![1024, 16384]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 16384]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S512x512 : Shape := ⟨2, ![512, 512]⟩
abbrev S256x512 : Shape := ⟨2, ![256, 512]⟩
abbrev S12 : Shape := ⟨1, ![12]⟩
abbrev S_ : Shape := ⟨0, ![]⟩
abbrev S256x4096 : Shape := ⟨2, ![256, 4096]⟩
abbrev S512x4096 : Shape := ⟨2, ![512, 4096]⟩
abbrev S1 : Shape := ⟨1, ![1]⟩

abbrev nBuf : Space → Nat
  | .hbm => 3
  | .vmem => 17
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x4096, .f32⟩
  | .local _ .vmem, ⟨1, _⟩ => ⟨S1024x4096, .f32⟩
  | .local _ .vmem, ⟨2, _⟩ => ⟨S1024x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S512x512, .bf16⟩
  | .local _ .vmem, ⟨16, _⟩ => ⟨S512x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_20 : BitVec 32 := 1#32
  let v51 : BitVec 32 := Scalar.muli v48 c1_i32_20
  let v52 : BitVec 32 := Scalar.addi c0_i32_21 v51
  v52.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_23 : BitVec 32 := 1#32
  let v53 : BitVec 32 := Scalar.muli v49 c1_i32_23
  let v54 : BitVec 32 := Scalar.addi c0_i32_24 v53
  v54.toNat
def k0_off1 (d0 : Dev nD) : Fin 2 → Nat :=
  let c1_i32_34 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v69 : BitVec 32 := Scalar.subi c1_i32_34 v19
  let c512_i32_35 : BitVec 32 := 512#32
  let v70 : BitVec 32 := Scalar.muli v69 c512_i32_35
  let c1_i32_36 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v71 : BitVec 32 := Scalar.subi c1_i32_36 v47
  let c256_i32_37 : BitVec 32 := 256#32
  let v72 : BitVec 32 := Scalar.muli v71 c256_i32_37
  let v73 : BitVec 32 := Scalar.addi v70 v72
  let v74 : Index := Scalar.indexCast v73
  let c0 : Index := 0#32
  ![v74.toNat, 0]
def k0_off2 (d0 : Dev nD) : Fin 2 → Nat :=
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v81 : BitVec 32 := Scalar.subi c1_i32_40 v47
  let c256_i32_41 : BitVec 32 := 256#32
  let v82 : BitVec 32 := Scalar.muli v81 c256_i32_41
  let v83 : Index := Scalar.indexCast v82
  let c0_42 : Index := 0#32
  ![v83.toNat, 0]
def k0_off3 (d0 : Dev nD) : Fin 2 → Nat :=
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v89 : BitVec 32 := Scalar.subi c1_i32_45 v47
  let c256_i32_46 : BitVec 32 := 256#32
  let v90 : BitVec 32 := Scalar.muli v89 c256_i32_46
  let c0_i32_51 : BitVec 32 := 0#32
  ![v90.toNat, 0]
def k0_dev3 (d0 : Dev nD) : Nat :=
  let c0_i32_50 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_49 : BitVec 32 := 1#32
  let v91 : BitVec 32 := Scalar.muli v48 c1_i32_49
  let v92 : BitVec 32 := Scalar.addi c0_i32_50 v91
  v92.toNat
def k0_off4 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v99 : BitVec 32 := Scalar.subi c1_i32_53 v47
  let c512_i32_54 : BitVec 32 := 512#32
  let v100 : BitVec 32 := Scalar.muli v99 c512_i32_54
  let c1_i32_55 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v101 : BitVec 32 := Scalar.subi c1_i32_55 v19
  let c256_i32_56 : BitVec 32 := 256#32
  let v102 : BitVec 32 := Scalar.muli v101 c256_i32_56
  let v103 : BitVec 32 := Scalar.addi v100 v102
  let v104 : Index := Scalar.indexCast v103
  let c0_57 : Index := 0#32
  ![v104.toNat, 0]
def k0_off5 (d0 : Dev nD) : Fin 2 → Nat :=
  let c1_i32_60 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v111 : BitVec 32 := Scalar.subi c1_i32_60 v19
  let c256_i32_61 : BitVec 32 := 256#32
  let v112 : BitVec 32 := Scalar.muli v111 c256_i32_61
  let v113 : Index := Scalar.indexCast v112
  let c0_62 : Index := 0#32
  ![v113.toNat, 0]
def k0_off6 (d0 : Dev nD) : Fin 2 → Nat :=
  let c1_i32_65 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v119 : BitVec 32 := Scalar.subi c1_i32_65 v19
  let c256_i32_66 : BitVec 32 := 256#32
  let v120 : BitVec 32 := Scalar.muli v119 c256_i32_66
  let c0_i32_71 : BitVec 32 := 0#32
  ![v120.toNat, 0]
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_69 : BitVec 32 := 1#32
  let v121 : BitVec 32 := Scalar.muli v49 c1_i32_69
  let v122 : BitVec 32 := Scalar.addi c0_i32_70 v121
  v122.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_26 : BitVec 32 := 512#32
  let v58 : BitVec 32 := Scalar.muli v19 c512_i32_26
  let c1_i32_27 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v59 : BitVec 32 := Scalar.subi c1_i32_27 v47
  let c256_i32_28 : BitVec 32 := 256#32
  let v60 : BitVec 32 := Scalar.muli v59 c256_i32_28
  let v61 : BitVec 32 := Scalar.addi v58 v60
  let v129 : Index := Scalar.indexCast v61
  let c0_73 : Index := 0#32
  ![v129.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_26 : BitVec 32 := 512#32
  let v58 : BitVec 32 := Scalar.muli v19 c512_i32_26
  let c1_i32_27 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v59 : BitVec 32 := Scalar.subi c1_i32_27 v47
  let c256_i32_28 : BitVec 32 := 256#32
  let v60 : BitVec 32 := Scalar.muli v59 c256_i32_28
  let v61 : BitVec 32 := Scalar.addi v58 v60
  let v147 : Index := Scalar.indexCast v61
  let c0_86 : Index := 0#32
  ![v147.toNat, 0]
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_91 : BitVec 32 := 1#32
  let v153 : BitVec 32 := Scalar.muli v49 c1_i32_91
  let v154 : BitVec 32 := Scalar.addi c0_i32_92 v153
  v154.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_31 : BitVec 32 := 512#32
  let v65 : BitVec 32 := Scalar.muli v47 c512_i32_31
  let c1_i32_32 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v66 : BitVec 32 := Scalar.subi c1_i32_32 v19
  let c256_i32_33 : BitVec 32 := 256#32
  let v67 : BitVec 32 := Scalar.muli v66 c256_i32_33
  let v68 : BitVec 32 := Scalar.addi v65 v67
  let v159 : Index := Scalar.indexCast v68
  let c0_93 : Index := 0#32
  ![v159.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_31 : BitVec 32 := 512#32
  let v65 : BitVec 32 := Scalar.muli v47 c512_i32_31
  let c1_i32_32 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v66 : BitVec 32 := Scalar.subi c1_i32_32 v19
  let c256_i32_33 : BitVec 32 := 256#32
  let v67 : BitVec 32 := Scalar.muli v66 c256_i32_33
  let v68 : BitVec 32 := Scalar.addi v65 v67
  let v177 : Index := Scalar.indexCast v68
  let c512_106 : Index := 512#32
  ![v177.toNat, 512]
def k0_dev6 (d0 : Dev nD) : Nat :=
  let c0_i32_112 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_111 : BitVec 32 := 1#32
  let v183 : BitVec 32 := Scalar.muli v48 c1_i32_111
  let v184 : BitVec 32 := Scalar.addi c0_i32_112 v183
  v184.toNat
def k0_off11 (d0 : Dev nD) : Fin 2 → Nat :=
  let c1_i32_113 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v189 : BitVec 32 := Scalar.subi c1_i32_113 v19
  let c512_i32_114 : BitVec 32 := 512#32
  let v190 : BitVec 32 := Scalar.muli v189 c512_i32_114
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c256_i32_115 : BitVec 32 := 256#32
  let v191 : BitVec 32 := Scalar.muli v47 c256_i32_115
  let v192 : BitVec 32 := Scalar.addi v190 v191
  let v193 : Index := Scalar.indexCast v192
  let c0_116 : Index := 0#32
  ![v193.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c256_i32_120 : BitVec 32 := 256#32
  let v200 : BitVec 32 := Scalar.muli v47 c256_i32_120
  let v201 : Index := Scalar.indexCast v200
  let c0_121 : Index := 0#32
  ![v201.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c256_i32_123 : BitVec 32 := 256#32
  let v206 : BitVec 32 := Scalar.muli v47 c256_i32_123
  let c0_i32_128 : BitVec 32 := 0#32
  ![v206.toNat, 0]
def k0_dev7 (d0 : Dev nD) : Nat :=
  let c0_i32_127 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_126 : BitVec 32 := 1#32
  let v207 : BitVec 32 := Scalar.muli v48 c1_i32_126
  let v208 : BitVec 32 := Scalar.addi c0_i32_127 v207
  v208.toNat
def k0_off14 (d0 : Dev nD) : Fin 2 → Nat :=
  let c1_i32_130 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v215 : BitVec 32 := Scalar.subi c1_i32_130 v47
  let c512_i32_131 : BitVec 32 := 512#32
  let v216 : BitVec 32 := Scalar.muli v215 c512_i32_131
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_132 : BitVec 32 := 256#32
  let v217 : BitVec 32 := Scalar.muli v19 c256_i32_132
  let v218 : BitVec 32 := Scalar.addi v216 v217
  let v219 : Index := Scalar.indexCast v218
  let c0_133 : Index := 0#32
  ![v219.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_137 : BitVec 32 := 256#32
  let v226 : BitVec 32 := Scalar.muli v19 c256_i32_137
  let v227 : Index := Scalar.indexCast v226
  let c0_138 : Index := 0#32
  ![v227.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_140 : BitVec 32 := 256#32
  let v232 : BitVec 32 := Scalar.muli v19 c256_i32_140
  let c0_i32_144 : BitVec 32 := 0#32
  ![v232.toNat, 0]
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_142 : BitVec 32 := 1#32
  let v233 : BitVec 32 := Scalar.muli v49 c1_i32_142
  let v234 : BitVec 32 := Scalar.addi c0_i32_143 v233
  v234.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32 : BitVec 32 := 512#32
  let v55 : BitVec 32 := Scalar.muli v19 c512_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c256_i32 : BitVec 32 := 256#32
  let v56 : BitVec 32 := Scalar.muli v47 c256_i32
  let v57 : BitVec 32 := Scalar.addi v55 v56
  let v241 : Index := Scalar.indexCast v57
  let c0_146 : Index := 0#32
  ![v241.toNat, 0]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32 : BitVec 32 := 512#32
  let v55 : BitVec 32 := Scalar.muli v19 c512_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c256_i32 : BitVec 32 := 256#32
  let v56 : BitVec 32 := Scalar.muli v47 c256_i32
  let v57 : BitVec 32 := Scalar.addi v55 v56
  let v265 : Index := Scalar.indexCast v57
  let c0_164 : Index := 0#32
  ![v265.toNat, 0]
def k0_dev9 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_168 : BitVec 32 := 1#32
  let v271 : BitVec 32 := Scalar.muli v49 c1_i32_168
  let v272 : BitVec 32 := Scalar.addi c0_i32_169 v271
  v272.toNat
def k0_dev10 (d0 : Dev nD) : Nat :=
  let c0_i32_173 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_172 : BitVec 32 := 1#32
  let v278 : BitVec 32 := Scalar.muli v48 c1_i32_172
  let v279 : BitVec 32 := Scalar.addi c0_i32_173 v278
  v279.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_29 : BitVec 32 := 512#32
  let v62 : BitVec 32 := Scalar.muli v47 c512_i32_29
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_30 : BitVec 32 := 256#32
  let v63 : BitVec 32 := Scalar.muli v19 c256_i32_30
  let v64 : BitVec 32 := Scalar.addi v62 v63
  let v285 : Index := Scalar.indexCast v64
  let c0_175 : Index := 0#32
  ![v285.toNat, 0]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_29 : BitVec 32 := 512#32
  let v62 : BitVec 32 := Scalar.muli v47 c512_i32_29
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_30 : BitVec 32 := 256#32
  let v63 : BitVec 32 := Scalar.muli v19 c256_i32_30
  let v64 : BitVec 32 := Scalar.addi v62 v63
  let v309 : Index := Scalar.indexCast v64
  let c512_193 : Index := 512#32
  ![v309.toNat, 512]
def k0_dev11 (d0 : Dev nD) : Nat :=
  let c0_i32_198 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_197 : BitVec 32 := 1#32
  let v315 : BitVec 32 := Scalar.muli v48 c1_i32_197
  let v316 : BitVec 32 := Scalar.addi c0_i32_198 v315
  v316.toNat
def k0_dev12 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_201 : BitVec 32 := 1#32
  let v322 : BitVec 32 := Scalar.muli v49 c1_i32_201
  let v323 : BitVec 32 := Scalar.addi c0_i32_202 v322
  v323.toNat
def k0_dev13 (d0 : Dev nD) : Nat :=
  let c0_i32_212 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_211 : BitVec 32 := 1#32
  let v335 : BitVec 32 := Scalar.muli v48 c1_i32_211
  let v336 : BitVec 32 := Scalar.addi c0_i32_212 v335
  v336.toNat
def k0_dev14 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_224 : BitVec 32 := 1#32
  let v352 : BitVec 32 := Scalar.muli v49 c1_i32_224
  let v353 : BitVec 32 := Scalar.addi c0_i32_225 v352
  v353.toNat
def k0_off21 (d0 : Dev nD) : Fin 2 → Nat :=
  let c1_i32_242 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v375 : BitVec 32 := Scalar.subi c1_i32_242 v19
  let c512_i32_243 : BitVec 32 := 512#32
  let v376 : BitVec 32 := Scalar.muli v375 c512_i32_243
  let v377 : Index := Scalar.indexCast v376
  let c0_244 : Index := 0#32
  ![v377.toNat, 0]
def k0_off22 (d0 : Dev nD) : Fin 2 → Nat :=
  let c1_i32_257 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v391 : BitVec 32 := Scalar.subi c1_i32_257 v47
  let c512_i32_258 : BitVec 32 := 512#32
  let v392 : BitVec 32 := Scalar.muli v391 c512_i32_258
  let v393 : Index := Scalar.indexCast v392
  let c512_259 : Index := 512#32
  ![v393.toNat, 512]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S16384x1024, .f32⟩
  | .hbm, ⟨3, _⟩ => ⟨S1024x1024, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
The 2 × 2 mesh the kernel runs on and the buffers its copies move.

Device `p` sits at column `xb p` and row `yb p`. Its two partners are `px p` (the other column, the
same row) and `py p` (the same column, the other row). The kernel makes twelve copies of
256 × 512 blocks; copy `k` of device `p` goes to `peer k p`, reads `srcM k p` and lands in `dstM k p`
of the peer. The offsets at which the program slices its buffers are stated here in terms of `xb` and `yb`.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Grid

open Cert.KernelIdeal Cert.KernelIdeal.Gen
open Idealize.ShloMosaic Idealize.ShloMosaic.TcCoe

/-! ## Positions and partners -/

/-- The column of a device: devices 2 and 3 are in column 1. -/
def xb (c : Dev nD) : ℕ := c.val / 2
/-- The row of a device: devices 1 and 2 are in row 1. -/
def yb (c : Dev nD) : ℕ := (c.val / 2 + c.val) % 2

set_option backward.proofsInPublic true in
/-- The partner in the other column. -/
def px (c : Dev nD) : Dev nD := ⟨3 - c.val, by have h : c.val < 4 := c.isLt; show _ < 4; omega⟩
set_option backward.proofsInPublic true in
/-- The partner in the other row. -/
def py (c : Dev nD) : Dev nD := ⟨c.val + 1 - 2 * (c.val % 2), by have h : c.val < 4 := c.isLt; show _ < 4; omega⟩

theorem px_px : ∀ c : Dev nD, px (px c) = c := by decide
theorem py_py : ∀ c : Dev nD, py (py c) = c := by decide
theorem px_ne_py : ∀ c : Dev nD, px c ≠ py c := by decide

/-- Going to the other column, as a bijection of the mesh. -/
def flipX : Dev nD ≃ Dev nD := ⟨px, px, px_px, px_px⟩
/-- Going to the other row, as a bijection of the mesh. -/
def flipY : Dev nD ≃ Dev nD := ⟨py, py, py_py, py_py⟩

theorem dev1_eq (c : Dev nD) : (⟨k0_dev1 c, k0_dev1_lt c⟩ : Dev nD) = px c := by revert c; decide +kernel
theorem dev2_eq (c : Dev nD) : (⟨k0_dev2 c, k0_dev2_lt c⟩ : Dev nD) = py c := by revert c; decide +kernel
theorem dev3_eq (c : Dev nD) : (⟨k0_dev3 c, k0_dev3_lt c⟩ : Dev nD) = px c := by revert c; decide +kernel
theorem dev4_eq (c : Dev nD) : (⟨k0_dev4 c, k0_dev4_lt c⟩ : Dev nD) = py c := by revert c; decide +kernel
theorem dev5_eq (c : Dev nD) : (⟨k0_dev5 c, k0_dev5_lt c⟩ : Dev nD) = py c := by revert c; decide +kernel
theorem dev6_eq (c : Dev nD) : (⟨k0_dev6 c, k0_dev6_lt c⟩ : Dev nD) = px c := by revert c; decide +kernel
theorem dev7_eq (c : Dev nD) : (⟨k0_dev7 c, k0_dev7_lt c⟩ : Dev nD) = px c := by revert c; decide +kernel
theorem dev8_eq (c : Dev nD) : (⟨k0_dev8 c, k0_dev8_lt c⟩ : Dev nD) = py c := by revert c; decide +kernel
theorem dev9_eq (c : Dev nD) : (⟨k0_dev9 c, k0_dev9_lt c⟩ : Dev nD) = py c := by revert c; decide +kernel
theorem dev10_eq (c : Dev nD) : (⟨k0_dev10 c, k0_dev10_lt c⟩ : Dev nD) = px c := by revert c; decide +kernel
theorem dev11_eq (c : Dev nD) : (⟨k0_dev11 c, k0_dev11_lt c⟩ : Dev nD) = px c := by revert c; decide +kernel
theorem dev12_eq (c : Dev nD) : (⟨k0_dev12 c, k0_dev12_lt c⟩ : Dev nD) = py c := by revert c; decide +kernel
theorem dev13_eq (c : Dev nD) : (⟨k0_dev13 c, k0_dev13_lt c⟩ : Dev nD) = px c := by revert c; decide +kernel
theorem dev14_eq (c : Dev nD) : (⟨k0_dev14 c, k0_dev14_lt c⟩ : Dev nD) = py c := by revert c; decide +kernel

/-! ## Where the program slices its buffers -/

theorem off1_eq : ∀ c : Dev nD, k0_off1 c = ![512 * (1 - xb c) + 256 * (1 - yb c), 0] := by decide +kernel
theorem off2_eq : ∀ c : Dev nD, k0_off2 c = ![256 * (1 - yb c), 0] := by decide +kernel
theorem off3_eq : ∀ c : Dev nD, k0_off3 c = ![256 * (1 - yb c), 0] := by decide +kernel
theorem off4_eq : ∀ c : Dev nD, k0_off4 c = ![512 * (1 - yb c) + 256 * (1 - xb c), 0] := by decide +kernel
theorem off5_eq : ∀ c : Dev nD, k0_off5 c = ![256 * (1 - xb c), 0] := by decide +kernel
theorem off6_eq : ∀ c : Dev nD, k0_off6 c = ![256 * (1 - xb c), 0] := by decide +kernel
theorem off7_eq : ∀ c : Dev nD, k0_off7 c = ![512 * xb c + 256 * (1 - yb c), 0] := by decide +kernel
theorem off8_eq : ∀ c : Dev nD, k0_off8 c = ![512 * xb c + 256 * (1 - yb c), 0] := by decide +kernel
theorem off9_eq : ∀ c : Dev nD, k0_off9 c = ![512 * yb c + 256 * (1 - xb c), 0] := by decide +kernel
theorem off10_eq : ∀ c : Dev nD, k0_off10 c = ![512 * yb c + 256 * (1 - xb c), 512] := by decide +kernel
theorem off11_eq : ∀ c : Dev nD, k0_off11 c = ![512 * (1 - xb c) + 256 * yb c, 0] := by decide +kernel
theorem off12_eq : ∀ c : Dev nD, k0_off12 c = ![256 * yb c, 0] := by decide +kernel
theorem off13_eq : ∀ c : Dev nD, k0_off13 c = ![256 * yb c, 0] := by decide +kernel
theorem off14_eq : ∀ c : Dev nD, k0_off14 c = ![512 * (1 - yb c) + 256 * xb c, 0] := by decide +kernel
theorem off15_eq : ∀ c : Dev nD, k0_off15 c = ![256 * xb c, 0] := by decide +kernel
theorem off16_eq : ∀ c : Dev nD, k0_off16 c = ![256 * xb c, 0] := by decide +kernel
theorem off17_eq : ∀ c : Dev nD, k0_off17 c = ![512 * xb c + 256 * yb c, 0] := by decide +kernel
theorem off18_eq : ∀ c : Dev nD, k0_off18 c = ![512 * xb c + 256 * yb c, 0] := by decide +kernel
theorem off19_eq : ∀ c : Dev nD, k0_off19 c = ![512 * yb c + 256 * xb c, 0] := by decide +kernel
theorem off20_eq : ∀ c : Dev nD, k0_off20 c = ![512 * yb c + 256 * xb c, 512] := by decide +kernel
theorem off21_eq : ∀ c : Dev nD, k0_off21 c = ![512 * (1 - xb c), 0] := by decide +kernel
theorem off22_eq : ∀ c : Dev nD, k0_off22 c = ![512 * (1 - yb c), 512] := by decide +kernel

theorem off2_off3 (c : Dev nD) : k0_off2 c = k0_off3 c := (off2_eq c).trans (off3_eq c).symm
theorem off5_off6 (c : Dev nD) : k0_off5 c = k0_off6 c := (off5_eq c).trans (off6_eq c).symm
theorem off12_off13 (c : Dev nD) : k0_off12 c = k0_off13 c := (off12_eq c).trans (off13_eq c).symm
theorem off15_off16 (c : Dev nD) : k0_off15 c = k0_off16 c := (off15_eq c).trans (off16_eq c).symm
theorem off3_px : ∀ c : Dev nD, k0_off3 (px c) = k0_off3 c := by decide +kernel
theorem off13_px : ∀ c : Dev nD, k0_off13 (px c) = k0_off13 c := by decide +kernel
theorem off6_py : ∀ c : Dev nD, k0_off6 (py c) = k0_off6 c := by decide +kernel
theorem off16_py : ∀ c : Dev nD, k0_off16 (py c) = k0_off16 c := by decide +kernel

/-- The two halves a device splits its column-indexed buffers into are the two row blocks, in some order. -/
theorem halves_y : ∀ c : Dev nD, (k0_off3 c = ![0, 0] ∧ k0_off13 c = ![256, 0]) ∨ (k0_off3 c = ![256, 0] ∧ k0_off13 c = ![0, 0]) := by decide +kernel
theorem halves_x : ∀ c : Dev nD, (k0_off6 c = ![0, 0] ∧ k0_off16 c = ![256, 0]) ∨ (k0_off6 c = ![256, 0] ∧ k0_off16 c = ![0, 0]) := by decide +kernel

/-! ## The buffers -/

/-- The buffers of the program: the two operands, the result and the fourteen scratch buffers. -/
abbrev dyM : Memref sig .tc .vmem S1024x4096 .f32 := Memref.whole cc0_stg0_0
abbrev wM : Memref sig .tc .vmem S1024x4096 .f32 := Memref.whole cc0_stg1_0
abbrev outM : Memref sig .tc .vmem S1024x1024 .f32 := Memref.whole cc0_stg2_0
abbrev s1aM : Memref sig .tc .vmem S512x512 .bf16 := Memref.whole cc0_scratch0
abbrev s1bM : Memref sig .tc .vmem S512x512 .bf16 := Memref.whole cc0_scratch1
abbrev c1aM : Memref sig .tc .vmem S512x512 .bf16 := Memref.whole cc0_scratch2
abbrev c1bM : Memref sig .tc .vmem S512x512 .bf16 := Memref.whole cc0_scratch3
abbrev s2aM : Memref sig .tc .vmem S256x512 .bf16 := Memref.whole cc0_scratch4
abbrev s2bM : Memref sig .tc .vmem S256x512 .bf16 := Memref.whole cc0_scratch5
abbrev c2aM : Memref sig .tc .vmem S256x512 .bf16 := Memref.whole cc0_scratch6
abbrev c2bM : Memref sig .tc .vmem S256x512 .bf16 := Memref.whole cc0_scratch7
abbrev s3aM : Memref sig .tc .vmem S256x512 .bf16 := Memref.whole cc0_scratch8
abbrev s3bM : Memref sig .tc .vmem S256x512 .bf16 := Memref.whole cc0_scratch9
abbrev r3aM : Memref sig .tc .vmem S256x512 .bf16 := Memref.whole cc0_scratch10
abbrev r3bM : Memref sig .tc .vmem S256x512 .bf16 := Memref.whole cc0_scratch11
abbrev r4aM : Memref sig .tc .vmem S512x512 .bf16 := Memref.whole cc0_scratch12
abbrev r4bM : Memref sig .tc .vmem S512x512 .bf16 := Memref.whole cc0_scratch13

/-- The block of 256 rows of a 512 × 512 buffer that starts at offset `o`. -/
abbrev half (M : Memref sig .tc .vmem S512x512 .bf16) (o : Fin 2 → ℕ) (h : ∀ a, o a + S256x512.size a ≤ S512x512.size a) :
    Memref sig .tc .vmem S256x512 .bf16 :=
  M.slice (Rect.unit (s := S512x512) o S256x512.size h) (fun _ => rfl)

theorem half_congr (M : Memref sig .tc .vmem S512x512 .bf16) {o o' : Fin 2 → ℕ} (e : o = o')
    (h : ∀ a, o a + S256x512.size a ≤ S512x512.size a) (h' : ∀ a, o' a + S256x512.size a ≤ S512x512.size a) :
    half M o h = half M o' h' := by subst e; rfl

/-- What copy `k` of device `c` reads. -/
def srcM (k : Fin 12) (c : Dev nD) : Memref sig .tc .vmem S256x512 .bf16 :=
  match k with
  | 0 => half s1aM (k0_off3 c) (k0_off3_inb c)
  | 1 => half s1bM (k0_off6 c) (k0_off6_inb c)
  | 2 => s2aM
  | 3 => s2bM
  | 4 => half s1aM (k0_off13 c) (k0_off13_inb c)
  | 5 => half s1bM (k0_off16 c) (k0_off16_inb c)
  | 6 => s3aM
  | 7 => s3aM
  | 8 => s3bM
  | 9 => s3bM
  | 10 => r3aM
  | 11 => r3bM

/-- Where copy `k` lands on the device `c` that receives it. -/
def dstM (k : Fin 12) (c : Dev nD) : Memref sig .tc .vmem S256x512 .bf16 :=
  match k with
  | 0 => half c1aM (k0_off3 c) (k0_off3_inb c)
  | 1 => half c1bM (k0_off6 c) (k0_off6_inb c)
  | 2 => c2aM
  | 3 => c2bM
  | 4 => half c1aM (k0_off13 c) (k0_off13_inb c)
  | 5 => half c1bM (k0_off16 c) (k0_off16_inb c)
  | 6 => r3aM
  | 7 => half r4aM (k0_off13 c) (k0_off13_inb c)
  | 8 => r3bM
  | 9 => half r4bM (k0_off16 c) (k0_off16_inb c)
  | 10 => half r4aM (k0_off3 c) (k0_off3_inb c)
  | 11 => half r4bM (k0_off6 c) (k0_off6_inb c)

/-- The device copy `k` of device `c` goes to. -/
def peer (k : Fin 12) (c : Dev nD) : Dev nD :=
  match k with
  | 0 => px c | 1 => py c | 2 => py c | 3 => px c | 4 => px c | 5 => py c
  | 6 => py c | 7 => px c | 8 => px c | 9 => py c | 10 => px c | 11 => py c

theorem peer_peer : ∀ (k : Fin 12) (c : Dev nD), peer k (peer k c) = c := by decide

/-- The peers of copy `k`, as a bijection of the mesh. -/
def peerEquiv (k : Fin 12) : Dev nD ≃ Dev nD := ⟨peer k, peer k, peer_peer k, peer_peer k⟩

/-- Sender and receiver name the landing place of a copy the same way. -/
theorem dstM_peer (k : Fin 12) (c : Dev nD) : dstM k (peer k c) = dstM k c := by
  match k with
  | 0 => exact half_congr _ (off3_px c) _ _
  | 1 => exact half_congr _ (off6_py c) _ _
  | 2 => rfl
  | 3 => rfl
  | 4 => exact half_congr _ (off13_px c) _ _
  | 5 => exact half_congr _ (off16_py c) _ _
  | 6 => rfl
  | 7 => exact half_congr _ (off13_px c) _ _
  | 8 => rfl
  | 9 => exact half_congr _ (off16_py c) _ _
  | 10 => exact half_congr _ (off3_px c) _ _
  | 11 => exact half_congr _ (off6_py c) _ _

/-! ## The semaphores -/

/-- The barrier semaphore the devices meet on before copying. -/
abbrev barS : Sem sig := (SemArray.scalar (sig.barrier 0 rfl) : Sems sig S_).sem
/-- The semaphore copy `k` completes on at its sender. -/
def sendS (k : Fin 12) : DmaSem sig := ⟨3 + k.val, by have := k.isLt; show _ < 27; omega⟩
/-- The semaphore copy `k` completes on at its receiver. -/
def recvS (k : Fin 12) : DmaSem sig := ⟨15 + k.val, by have := k.isLt; show _ < 27; omega⟩

abbrev barCell (c : Dev nD) : GSem nD τ sig := ((c : Thread nD τ), .reg barS)
abbrev sendCell (k : Fin 12) (c : Dev nD) : GSem nD τ sig := ((c : Thread nD τ), .dma (sendS k))
abbrev recvCell (k : Fin 12) (c : Dev nD) : GSem nD τ sig := ((c : Thread nD τ), .dma (recvS k))

/-- The credit of one block: what each copy adds to each of its two semaphores. -/
abbrev N : ℕ := c2aM.view.dmaCredit
theorem N_pos : 0 < N := View.dmaCredit_pos _ (by decide)

theorem amount_dst (k : Fin 12) (c : Dev nD) (q : DmaSem sig) : (dstM k c).view.amount (.dma q) = N := by
  match k with
  | 0 | 1 | 2 | 3 | 4 | 5 | 6 | 7 | 8 | 9 | 10 | 11 => rfl
theorem credit_src (k : Fin 12) (c : Dev nD) : (srcM k c).view.dmaCredit = N := by
  match k with
  | 0 | 1 | 2 | 3 | 4 | 5 | 6 | 7 | 8 | 9 | 10 | 11 => rfl
theorem credit_dst (k : Fin 12) (c : Dev nD) : (dstM k c).view.dmaCredit = N := by
  match k with
  | 0 | 1 | 2 | 3 | 4 | 5 | 6 | 7 | 8 | 9 | 10 | 11 => rfl

end Cert.Grid

end
-- ==== Proof.Blocks.lean ====
/-
What each copy of the kernel carries and what its result holds, as functions of the operands.

`A c` and `B c` are device `c`'s blocks of the two operands (`dy` and `W`). `sent A B k c` is the block that copy
`k` of device `c` carries. `result A B c f` is what device `c`'s result buffer holds at the end when it held `f` before.
-/
module

public import proofs.«01_k».proof.Proof.Mesh

@[expose] public section

noncomputable section

namespace Cert.Grid

open Cert.KernelIdeal Cert.KernelIdeal.Gen
open Idealize.ShloMosaic Idealize.ShloMosaic.TcCoe

variable {F : FTy → Type} [FloatOps F]

/-- 256 rows of an operand, from offset `o`. -/
def rows256 (A : Vec F S1024x4096 .f32) (o : Fin 2 → ℕ) (h : ∀ a, o a + S256x4096.size a ≤ S1024x4096.size a) : Vec F S256x4096 .f32 :=
  fun j => A ((Rect.unit (s := S1024x4096) o S256x4096.size h).emb j)

/-- 512 rows of an operand, from offset `o`. -/
def rows512 (A : Vec F S1024x4096 .f32) (o : Fin 2 → ℕ) (h : ∀ a, o a + S512x4096.size a ≤ S1024x4096.size a) : Vec F S512x4096 .f32 :=
  fun j => A ((Rect.unit (s := S1024x4096) o S512x4096.size h).emb j)

/-- The first and the second half of the rows of `W`. -/
abbrev wLo (B : Vec F S1024x4096 .f32) : Vec F S512x4096 .f32 := rows512 B ![0, 0] inb_S1024x4096_S512x4096_0_0
abbrev wHi (B : Vec F S1024x4096 .f32) : Vec F S512x4096 .f32 := rows512 B ![512, 0] inb_S1024x4096_S512x4096_512_0

variable (A B : Dev nD → Vec F S1024x4096 .f32)

/-- The two blocks each device computes for its column partner (copies 0 and 4) and for its row partner (1 and 5). -/
def part0 (c : Dev nD) : Vec F S256x512 .bf16 := k0_pay1 (rows256 (A c) (k0_off1 c) (k0_off1_inb c)) (wLo (B c))
def part1 (c : Dev nD) : Vec F S256x512 .bf16 := k0_pay2 (rows256 (A c) (k0_off4 c) (k0_off4_inb c)) (wHi (B c))
def part4 (c : Dev nD) : Vec F S256x512 .bf16 := k0_pay9 (rows256 (A c) (k0_off11 c) (k0_off11_inb c)) (wLo (B c))
def part5 (c : Dev nD) : Vec F S256x512 .bf16 := k0_pay10 (rows256 (A c) (k0_off14 c) (k0_off14_inb c)) (wHi (B c))
/-- The device's own products for the blocks it passes on after one exchange. -/
def own2 (c : Dev nD) : Vec F S256x512 .f32 := k0_pay3 (rows256 (A c) (k0_off7 c) (k0_off7_inb c)) (wLo (B c))
def own3 (c : Dev nD) : Vec F S256x512 .f32 := k0_pay6 (rows256 (A c) (k0_off9 c) (k0_off9_inb c)) (wHi (B c))
/-- The sums over one column pair (copy 2) and over one row pair (copy 3). -/
def part2 (c : Dev nD) : Vec F S256x512 .bf16 := k0_pay5 (own2 A B c) (part0 A B (px c))
def part3 (c : Dev nD) : Vec F S256x512 .bf16 := k0_pay8 (own3 A B c) (part1 A B (py c))
/-- The sums over all four devices of the two blocks the device completes, in full and as they are sent on. -/
def sumA (c : Dev nD) : Vec F S256x512 .f32 :=
  k0_pay11 (rows256 (A c) (k0_off17 c) (k0_off17_inb c)) (wLo (B c)) (part4 A B (px c)) (part2 A B (py c))
def partA (c : Dev nD) : Vec F S256x512 .bf16 :=
  k0_pay12 (rows256 (A c) (k0_off17 c) (k0_off17_inb c)) (wLo (B c)) (part4 A B (px c)) (part2 A B (py c))
def own8 (c : Dev nD) : Vec F S256x512 .f32 := k0_pay13 (rows256 (A c) (k0_off19 c) (k0_off19_inb c)) (wHi (B c))
def sumB (c : Dev nD) : Vec F S256x512 .f32 := k0_pay15 (own8 A B c) (k0_pay14 (part5 A B (py c))) (part3 A B (px c))
def partB (c : Dev nD) : Vec F S256x512 .bf16 := k0_pay16 (own8 A B c) (k0_pay14 (part5 A B (py c))) (part3 A B (px c))

/-- What copy `k` of device `c` carries. -/
def sent (k : Fin 12) (c : Dev nD) : Vec F S256x512 .bf16 :=
  match k with
  | 0 => part0 A B c
  | 1 => part1 A B c
  | 2 => part2 A B c
  | 3 => part3 A B c
  | 4 => part4 A B c
  | 5 => part5 A B c
  | 6 => partA A B c
  | 7 => partA A B c
  | 8 => partB A B c
  | 9 => partB A B c
  | 10 => partA A B (py c)
  | 11 => partB A B (px c)

/-! ## Two halves of a 512 × 512 block -/

/-- The rows of a 512 × 512 block from offset `o`. -/
abbrev hr (o : Fin 2 → ℕ) (h : ∀ a, o a + S256x512.size a ≤ S512x512.size a) : Rect S512x512 :=
  Rect.unit (s := S512x512) o S256x512.size h

/-- The 512 × 512 block with `X` at the rows from `o` and `Y` at the rows from `o'`. -/
def glue (o o' : Fin 2 → ℕ) (h : ∀ a, o a + S256x512.size a ≤ S512x512.size a) (h' : ∀ a, o' a + S256x512.size a ≤ S512x512.size a)
    (X Y : Vec F S256x512 .bf16) : Vec F S512x512 .bf16 :=
  (hr o' h').overlay ((hr o h).overlay (fun _ => X (fun a => ⟨0, by fin_cases a <;> decide⟩)) X) Y

/-- The two blocks of another column (for `a`) and of another row (for `b`) a device receives. -/
def otherA (c : Dev nD) : Vec F S512x512 .bf16 :=
  glue (k0_off3 c) (k0_off13 c) (k0_off3_inb c) (k0_off13_inb c) (sent A B 10 (px c)) (sent A B 7 (px c))
def otherB (c : Dev nD) : Vec F S512x512 .bf16 :=
  glue (k0_off6 c) (k0_off16 c) (k0_off6_inb c) (k0_off16_inb c) (sent A B 11 (py c)) (sent A B 9 (py c))

/-! ## The result -/

/-- A block of 256 × 512 and one of 512 × 512 of the result, at offset `o`. -/
abbrev or256 (o : Fin 2 → ℕ) (h : ∀ a, o a + S256x512.size a ≤ S1024x1024.size a) : Rect S1024x1024 :=
  Rect.unit (s := S1024x1024) o S256x512.size h
abbrev or512 (o : Fin 2 → ℕ) (h : ∀ a, o a + S512x512.size a ≤ S1024x1024.size a) : Rect S1024x1024 :=
  Rect.unit (s := S1024x1024) o S512x512.size h

/-- The result block at offset `o` stored over the result `X`. -/
abbrev put256 (o : Fin 2 → ℕ) (h : ∀ a, o a + S256x512.size a ≤ S1024x1024.size a) (X : Vec F S1024x1024 .f32) (Y : Vec F S256x512 .f32) :
    Vec F S1024x1024 .f32 := (or256 o h).overlay X Y
abbrev put512 (o : Fin 2 → ℕ) (h : ∀ a, o a + S512x512.size a ≤ S1024x1024.size a) (X : Vec F S1024x1024 .f32) (Y : Vec F S512x512 .f32) :
    Vec F S1024x1024 .f32 := (or512 o h).overlay X Y

/-- The result after the stores of each stage of the kernel, in order. -/
def out1 (c : Dev nD) (f : Vec F S1024x1024 .f32) : Vec F S1024x1024 .f32 :=
  put256 (k0_off8 c) (k0_off8_inb c) f (k0_pay4 (own2 A B c) (part0 A B (px c)))
def out2 (c : Dev nD) (f : Vec F S1024x1024 .f32) : Vec F S1024x1024 .f32 :=
  put256 (k0_off10 c) (k0_off10_inb c) (out1 A B c f) (k0_pay7 (own3 A B c) (part1 A B (py c)))
def out3 (c : Dev nD) (f : Vec F S1024x1024 .f32) : Vec F S1024x1024 .f32 :=
  put256 (k0_off18 c) (k0_off18_inb c) (out2 A B c f) (sumA A B c)
def out4 (c : Dev nD) (f : Vec F S1024x1024 .f32) : Vec F S1024x1024 .f32 :=
  put256 (k0_off20 c) (k0_off20_inb c) (out3 A B c f) (sumB A B c)
def out5 (c : Dev nD) (f : Vec F S1024x1024 .f32) : Vec F S1024x1024 .f32 :=
  put256 (k0_off8 c) (k0_off8_inb c) (out4 A B c f) (k0_pay17 (sent A B 6 (py c)))
def out6 (c : Dev nD) (f : Vec F S1024x1024 .f32) : Vec F S1024x1024 .f32 :=
  put256 (k0_off10 c) (k0_off10_inb c) (out5 A B c f) (k0_pay18 (sent A B 8 (px c)))
def out7 (c : Dev nD) (f : Vec F S1024x1024 .f32) : Vec F S1024x1024 .f32 :=
  put512 (k0_off21 c) (k0_off21_inb c) (out6 A B c f) (k0_pay19 (otherA A B c))
def result (c : Dev nD) (f : Vec F S1024x1024 .f32) : Vec F S1024x1024 .f32 :=
  put512 (k0_off22 c) (k0_off22_inb c) (out7 A B c f) (k0_pay20 (otherB A B c))

end Cert.Grid

end
-- ==== Proof.Plan.lean ====
/-
The plan of the kernel's synchronisation: which cell is paid by whom, in what amount, and what comes with the payment.

Each device has a barrier cell and, for each of the twelve copies, a send cell and a receive cell, each
used for one round. A device's barrier cell is paid one unit by each of its two partners, which hands over the places where
the copies to that partner land. Copy `k` pays the send cell of its sender, giving the source back, and the receive cell of its
receiver, handing over the landing place with the block in it.
-/
module

public import proofs.«01_k».proof.Proof.Blocks
public import Idealize.ShloMosaic.Lib.Pipeline.Launch
public import Idealize.ShloMosaic.Lib.Pipeline.Kit
public import Idealize.ShloMosaic.Lib.Tactic

@[expose] public section

noncomputable section

namespace Cert.Grid

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the pipeline's rounds and this kernel's, whose duties are named by booleans. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (A B : Dev nD → Vec F S1024x4096 .f32)

/-! ## What the payments hand over -/

/-- The place on device `c` where copy `k` lands, at any contents. -/
def land (k : Fin 12) (c : Dev nD) : sProp 𝕄 := iprop(∃ X, owns (c : Thread nD τ) (dstM k c) fullShare X)

/-- What the column partner of device `c` hands it at the barrier: where the copies to that partner land. -/
def fromX (c : Dev nD) : sProp 𝕄 :=
  iprop(land 0 (px c) ∗ land 3 (px c) ∗ land 4 (px c) ∗ land 7 (px c) ∗ land 8 (px c) ∗ land 10 (px c))
/-- What the row partner of device `c` hands it at the barrier. -/
def fromY (c : Dev nD) : sProp 𝕄 :=
  iprop(land 1 (py c) ∗ land 2 (py c) ∗ land 5 (py c) ∗ land 6 (py c) ∗ land 9 (py c) ∗ land 11 (py c))

/-- The share of its source that copy `k` holds while it is under way. Two copies read each of the completed blocks, and the
    blocks passed on by copies 10 and 11 are read by the device meanwhile. -/
def shr (k : Fin 12) : PosShare TreeShare :=
  match k with
  | 6 => fullShare.left | 7 => fullShare.right | 8 => fullShare.left | 9 => fullShare.right
  | 10 => fullShare.left | 11 => fullShare.left | _ => fullShare

/-- What copy `k` of device `c` gives back: its source. -/
def sendPay (k : Fin 12) (c : Dev nD) : sProp 𝕄 := owns (c : Thread nD τ) (srcM k c) (shr k) (sent A B k c)
/-- What copy `k` brings device `c`: the peer's block in its place. -/
def recvPay (k : Fin 12) (c : Dev nD) : sProp 𝕄 := owns (c : Thread nD τ) (dstM k c) fullShare (sent A B k (peer k c))

instance land_storable (k : Fin 12) (c : Dev nD) : BI.Storable (upEmb : UEmb _ 𝕄) (land (F := F) k c) := by unfold land; infer_instance
instance fromX_storable (c : Dev nD) : BI.Storable (upEmb : UEmb _ 𝕄) (fromX (F := F) c) := by unfold fromX; infer_instance
instance fromY_storable (c : Dev nD) : BI.Storable (upEmb : UEmb _ 𝕄) (fromY (F := F) c) := by unfold fromY; infer_instance
instance sendPay_storable (k : Fin 12) (c : Dev nD) : BI.Storable (upEmb : UEmb _ 𝕄) (sendPay A B k c) := by unfold sendPay; infer_instance
instance recvPay_storable (k : Fin 12) (c : Dev nD) : BI.Storable (upEmb : UEmb _ 𝕄) (recvPay A B k c) := by unfold recvPay; infer_instance

/-! ## The schedule -/

/-- What payment of duty `d` into semaphore `s` of device `c` hands over. -/
def payOf (c : Dev nD) (s : SemLoc sig) (d : Bool) : sProp 𝕄 :=
  match s with
  | .reg _ => if d then fromX c else fromY c
  | .dma q =>
    if h : q.val < 15 then if h' : 3 ≤ q.val then sendPay A B ⟨q.val - 3, by omega⟩ c else iprop(emp)
    else recvPay A B ⟨q.val - 15, by have h₁ : q.val < 27 := q.isLt; omega⟩ c

/-- Whether a cell is one of this kernel's copies' cells. -/
def isCopy (s : SemLoc sig) : Bool :=
  match s with
  | .reg _ => false
  | .dma q => decide (3 ≤ q.val)

/-- The one round of each cell. -/
def plan : Rounds.Schedule (GSem nD τ sig) Bool 𝕄 where
  duties g r := if r = 0 ∧ g.1.2 = .tc then (if g.2 = .reg barS then Finset.univ else if isCopy g.2 then {false} else ∅) else ∅
  unitless _ := False
  amount g _ _ := if g.2 = .reg barS then 1 else N
  payload g _ d := payOf A B g.1.1 g.2 d
  amount_pos g _ _ _ := by
    by_cases h : g.2 = .reg barS
    · rw [if_pos h]; exact Nat.one_pos
    · rw [if_neg h]; exact N_pos

instance plan_payload_storable (g : GSem nD τ sig) (r : ℕ) (d : Bool) :
    BI.Storable (upEmb : UEmb _ 𝕄) ((plan A B).payload g r d) := by
  show BI.Storable upEmb (payOf A B g.1.1 g.2 d)
  unfold payOf
  split
  · split <;> infer_instance
  · split
    · split <;> infer_instance
    · infer_instance

theorem dma_ne_bar (q : DmaSem sig) : (SemLoc.dma q : SemLoc sig) ≠ .reg barS := fun h => by cases h
theorem isCopy_send (k : Fin 12) : isCopy (.dma (sendS k)) = true := by revert k; decide
theorem isCopy_recv (k : Fin 12) : isCopy (.dma (recvS k)) = true := by revert k; decide

section Sched
variable (k : Fin 12) (c : Dev nD)

theorem duties_bar : (plan A B).duties (barCell c) 0 = Finset.univ := by
  dsimp only [plan]; rw [if_pos ⟨rfl, rfl⟩, if_pos rfl]
theorem duties_send : (plan A B).duties (sendCell k c) 0 = {false} := by
  dsimp only [plan]; rw [if_pos ⟨rfl, rfl⟩, if_neg (dma_ne_bar _), if_pos (isCopy_send k)]
theorem duties_recv : (plan A B).duties (recvCell k c) 0 = {false} := by
  dsimp only [plan]; rw [if_pos ⟨rfl, rfl⟩, if_neg (dma_ne_bar _), if_pos (isCopy_recv k)]
theorem duties_later (g : GSem nD τ sig) : ∀ r, 1 ≤ r → (plan A B).duties g r = ∅ :=
  fun r hr => by dsimp only [plan]; rw [if_neg fun h => by omega]

theorem amount_bar (d : Bool) : (plan A B).amount (barCell c) 0 d = 1 := by dsimp only [plan]; exact if_pos rfl
theorem amount_dma (q : DmaSem sig) (d : Bool) : (plan A B).amount ((c : Thread nD τ), .dma q) 0 d = N := by
  dsimp only [plan]; exact if_neg (dma_ne_bar _)

theorem expect_bar : (plan A B).expect (barCell c) 0 = 2 := by
  unfold Schedule.expect Schedule.amountOf
  rw [duties_bar, Finset.sum_congr rfl fun d _ => amount_bar A B c d, Finset.sum_const, Finset.card_univ, Fintype.card_bool, smul_eq_mul]
theorem expect_send : (plan A B).expect (sendCell k c) 0 = N := by
  unfold Schedule.expect Schedule.amountOf; rw [duties_send, Finset.sum_singleton, amount_dma]
theorem expect_recv : (plan A B).expect (recvCell k c) 0 = N := by
  unfold Schedule.expect Schedule.amountOf; rw [duties_recv, Finset.sum_singleton, amount_dma]

theorem payload_bar (d : Bool) : (plan A B).payload (barCell c) 0 d = if d then fromX c else fromY c := rfl
theorem payload_send (d : Bool) : (plan A B).payload (sendCell k c) 0 d = sendPay A B k c := by
  have h₁ : (sendS k).val < 15 := by have := k.isLt; show 3 + k.val < 15; omega
  have h₂ : 3 ≤ (sendS k).val := Nat.le_add_right 3 k.val
  have h₃ : (⟨(sendS k).val - 3, by omega⟩ : Fin 12) = k := Fin.ext (Nat.add_sub_cancel_left 3 k.val)
  show payOf A B c (.dma (sendS k)) d = _
  dsimp only [payOf]; rw [dif_pos h₁, dif_pos h₂, h₃]
theorem payload_recv (d : Bool) : (plan A B).payload (recvCell k c) 0 d = recvPay A B k c := by
  have h₁ : ¬ (recvS k).val < 15 := Nat.not_lt.mpr (Nat.le_add_right 15 k.val)
  have h₃ : (⟨(recvS k).val - 15, by have := k.isLt; show 15 + k.val - 15 < 12; omega⟩ : Fin 12) = k := Fin.ext (Nat.add_sub_cancel_left 15 k.val)
  show payOf A B c (.dma (recvS k)) d = _
  dsimp only [payOf]; rw [dif_neg h₁, h₃]

/-- What waiting for a whole round brings. -/
theorem rest_bar : bigSep ((plan A B).duties (barCell c) 0 \ ∅) (fun d => (plan A B).payload (barCell c) 0 d) = iprop(fromX c ∗ fromY c) := by
  rw [Finset.sdiff_empty, duties_bar, bigSep_univ_eq_bigSepL [true, false] (by decide) (by decide), bigSepL_cons_cons, bigSepL_singleton]
  rfl
theorem rest_send : bigSep ((plan A B).duties (sendCell k c) 0 \ ∅) (fun d => (plan A B).payload (sendCell k c) 0 d) = sendPay A B k c := by
  rw [Finset.sdiff_empty, duties_send, bigSep_singleton, payload_send]
theorem rest_recv : bigSep ((plan A B).duties (recvCell k c) 0 \ ∅) (fun d => (plan A B).payload (recvCell k c) 0 d) = recvPay A B k c := by
  rw [Finset.sdiff_empty, duties_recv, bigSep_singleton, payload_recv]

end Sched

/-! ## What a device still owes, and the order of the waits -/

/-- What device `c` owes once it has made its copies before the `j`th: the credit of each later copy at its receiver. -/
def dueFrom (j : ℕ) (c : Dev nD) : CellTallies nD τ sig Unit :=
  ∑ k ∈ (Finset.univ : Finset (Fin 12)).filter (fun k => j ≤ k.val), tallyAt (recvCell k (peer k c)) () N

theorem dueFrom_step (k : Fin 12) (c : Dev nD) : dueFrom k.val c = dueFrom (k.val + 1) c + tallyAt (recvCell k (peer k c)) () N := by
  unfold dueFrom
  have h : (Finset.univ : Finset (Fin 12)).filter (fun i => k.val ≤ i.val) = insert k (Finset.univ.filter fun i => k.val + 1 ≤ i.val) := by
    ext i; simp only [Finset.mem_filter, Finset.mem_univ, true_and, Finset.mem_insert, Fin.ext_iff]; omega
  rw [h, Finset.sum_insert (by simp), add_comm]
theorem dueFrom_end (c : Dev nD) : dueFrom 12 c = 0 := by
  unfold dueFrom
  rw [Finset.filter_false_of_mem (fun k _ => by have := k.isLt; omega), Finset.sum_empty]

/-- What device `c` owes when it starts: all its copies and one unit at each partner's barrier. -/
def due₁ (c : Dev nD) : CellTallies nD τ sig Unit := dueFrom 0 c + tallyAt (barCell (py c)) () 1
def due (c : Dev nD) : CellTallies nD τ sig Unit := due₁ c + tallyAt (barCell (px c)) () 1

/-- The cells that are waited on, and the order in which: the barrier, then the receive cells in the order of the copies. -/
def idx (g : GSem nD τ sig) : Finset Unit := if g.1.2 = .tc then {()} else ∅
def lvl (g : GSem nD τ sig) (_ : Unit) : ℕ :=
  match g.2 with
  | .reg _ => 1
  | .dma q => q.val - 13

theorem idx_of_ne (g : GSem nD τ sig) (h : g.1.2 ≠ .tc) : idx g = ∅ := if_neg h
theorem idx_tc (c : Dev nD) (s : SemLoc sig) : idx ((c : Thread nD τ), s) = {()} := if_pos rfl
theorem lvl_recv (k : Fin 12) (c : Dev nD) (u : Unit) : lvl (recvCell k c) u = 2 + k.val := by
  show 15 + k.val - 13 = _; omega

theorem dueFrom_pos {j : ℕ} {c : Dev nD} {g : GSem nD τ sig} {u : Unit} (h : 0 < dueFrom j c g u) :
    ∃ k : Fin 12, j ≤ k.val ∧ g = recvCell k (peer k c) := by
  unfold dueFrom at h
  rw [Finset.sum_apply, Finsupp.finset_sum_apply] at h
  obtain ⟨k, hk, hp⟩ := Finset.exists_ne_zero_of_sum_ne_zero (Nat.pos_iff_ne_zero.mp h)
  rw [tallyAt_apply] at hp
  refine ⟨k, (Finset.mem_filter.mp hk).2, ?_⟩
  by_contra hn
  exact hp (if_neg fun h' => hn h'.1)

theorem due_pos {c : Dev nD} {g : GSem nD τ sig} {u : Unit} (h : 0 < due c g u) :
    (∃ k : Fin 12, g = recvCell k (peer k c)) ∨ g = barCell (py c) ∨ g = barCell (px c) := by
  by_contra hn
  rw [not_or, not_or] at hn
  have h₀ : due c g u = dueFrom 0 c g u + (tallyAt (barCell (py c)) () 1 : CellTallies nD τ sig Unit) g u
      + (tallyAt (barCell (px c)) () 1 : CellTallies nD τ sig Unit) g u := by
    unfold due due₁; rw [Pi.add_apply, Finsupp.add_apply, Pi.add_apply, Finsupp.add_apply]
  have hy : (tallyAt (barCell (py c)) () 1 : CellTallies nD τ sig Unit) g u = 0 := by rw [tallyAt_ne_cell hn.2.1]; rfl
  have hx : (tallyAt (barCell (px c)) () 1 : CellTallies nD τ sig Unit) g u = 0 := by rw [tallyAt_ne_cell hn.2.2]; rfl
  rw [h₀, hy, hx, Nat.add_zero] at h
  obtain ⟨k, -, hk⟩ := dueFrom_pos (j := 0) (c := c) (g := g) (u := u) h
  exact hn.1 ⟨k, hk⟩

/-- A cell below every copy from the `j`th on may be waited for while those are owed. -/
theorem mayWait_dueFrom (c : Dev nD) (s : SemLoc sig) (j n : ℕ) (hs : lvl ((c : Thread nD τ), s) () = n) (hn : n < 2 + j) :
    (levAts idx lvl : sProp 𝕄) ⊢ MayWait (c : Thread nD τ) s () (dueFrom j c) :=
  MayOwe.of_cut (L := idx) (lev := lvl) n (fun p hp => by rw [Finset.mem_singleton.mp hp, idx_tc]; exact Finset.mem_singleton_self _)
    (fun g u hg => by obtain ⟨k, -, rfl⟩ := dueFrom_pos hg; rw [idx_tc]; exact Finset.mem_singleton_self _)
    (fun p hp => by rw [Finset.mem_singleton.mp hp, hs])
    (fun g u hg => by obtain ⟨k, hk, rfl⟩ := dueFrom_pos hg; rw [lvl_recv]; omega)

/-- The staging semaphores are below everything. -/
theorem mayWait_stage (c : Dev nD) (q : DmaSem sig) (hq : q.val ≤ 13) (O : CellTallies nD τ sig Unit) (hO : O = due c ∨ O = 0) :
    (levAts idx lvl : sProp 𝕄) ⊢ MayWait (c : Thread nD τ) (.dma q) () O := by
  rcases hO with rfl | rfl
  · refine MayOwe.of_cut (L := idx) (lev := lvl) 0 (fun p hp => by rw [Finset.mem_singleton.mp hp, idx_tc]; exact Finset.mem_singleton_self _)
      (fun g u hg => by rcases due_pos hg with ⟨k, rfl⟩ | rfl | rfl <;> (rw [idx_tc]; exact Finset.mem_singleton_self _))
      (fun p hp => by rw [Finset.mem_singleton.mp hp]; show q.val - 13 ≤ 0; omega)
      (fun g u hg => by
        rcases due_pos hg with ⟨k, rfl⟩ | rfl | rfl
        · rw [lvl_recv]; omega
        · exact Nat.one_pos
        · exact Nat.one_pos)
  · rw [MayWait_zero]; iintro -; iempintro

end Cert.Grid

end
-- ==== Proof.Steps.lean ====
/-
One rule per kind of step of the kernel: a barrier signal and the barrier wait, a copy started, a receive cell and a send cell
waited for, a load and a store through a buffer that is owned whole or in part. Each is stated over an arbitrary continuation.
-/
module

public import proofs.«01_k».proof.Proof.Plan
public import Idealize.ShloMosaic.Lib.MemrefSat
public import Idealize.ShloMosaic.Lib.VecWindow

@[expose] public section

noncomputable section

namespace Cert.Grid

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The cells, numbered -/

/-- The copies' cells of a device: the send cells, then the receive cells. -/
abbrev CopyIx : Type := Fin 12 ⊕ Fin 12
/-- All cells of a device: its barrier cell, then the copies'. -/
abbrev CellIx : Type := Unit ⊕ CopyIx

abbrev osem : CopyIx → SemLoc sig := Sum.elim (fun k => .dma (sendS k)) (fun k => .dma (recvS k))
abbrev csem : CellIx → SemLoc sig := Sum.elim (fun _ => .reg barS) osem
abbrev kcell (ci : Dev nD × CellIx) : GSem nD τ sig := ((ci.1 : Thread nD τ), csem ci.2)

variable (A B : Dev nD → Vec F S1024x4096 .f32) (K : Dev nD × CellIx → ℕ)

/-- Every cell's invariant, and that every cell has reached its round. -/
def records : sProp 𝕄 :=
  iprop((bigSep Finset.univ fun ci : Dev nD × CellIx => cellInv ER (plan A B) (K ci) (kcell ci))
    ∗ bigSep Finset.univ fun ci : Dev nD × CellIx => reached ER (kcell ci) 0)

instance records_persistent : BI.Persistent (records A B K) := by unfold records; infer_instance

theorem records_inv (ci : Dev nD × CellIx) : records A B K ⊢ cellInv ER (plan A B) (K ci) (kcell ci) := by
  unfold records; exact (BI.sep_and.trans BI.and_elimL).trans (bigSep_elim (Finset.mem_univ ci))
theorem records_reached (ci : Dev nD × CellIx) : records A B K ⊢ reached ER (kcell ci) 0 := by
  unfold records; exact (BI.sep_and.trans BI.and_elimR).trans (bigSep_elim (Φ := fun ci : Dev nD × CellIx => (reached ER (kcell ci) 0 : sProp 𝕄)) (Finset.mem_univ ci))

/-! ## What a device holds of a copy, before and after it is started and before it arrives -/

/-- The right to start copy `k`. -/
def pend (k : Fin 12) (c : Dev nD) : sProp 𝕄 :=
  iprop(atPos ER (sendCell k c) 0 ∅ 0 ∗ dutyTok ER (sendCell k c) 0 false ∗ dutyTok ER (recvCell k (peer k c)) 0 false)
/-- The right to wait for copy `k` to have left. -/
def flying (k : Fin 12) (c : Dev nD) : sProp 𝕄 := iprop(atPos ER (sendCell k c) 0 ∅ 0 ∗ cred (tallyAt (sendCell k c) () N))
/-- The right to wait for copy `k` to arrive. -/
def coming (k : Fin 12) (c : Dev nD) : sProp 𝕄 := iprop(atPos ER (recvCell k c) 0 ∅ 0 ∗ cred (tallyAt (recvCell k c) () N))
/-- Device `c` owes `O`. -/
def debt (c : Dev nD) (O : CellTallies nD τ sig Unit) : sProp 𝕄 := iprop(∃ W, owes (c : Thread nD τ) O W)

/-- The weakest precondition the kernel's steps are proved in. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section

/-- Copy `k` of device `c` started: its source and the landing place go, with the debt of its credit; the right to wait for it to
    have left stays. -/
theorem step_send (k : Fin 12) (c n : Dev nD) (j : ℕ) (hj : k.val = j) (hn : n = peer k c) {src : Memref sig .tc .vmem S256x512 .bf16}
    {dst : Memref sig (Dev.tc n : Thread nD τ).2.kind .vmem S256x512 .bf16} (hs : src = srcM k c) (hd : dst = dstM k c) {sS sR : DmaSem sig}
    (hsS : sS = sendS k) (hsR : sR = recvS k) {hsc : dst.view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {p : PUnit → Prog (TpuEff nD τ sig (Elt F) Λ₀ .tc) α} :
    iprop(records A B K ∗ pend k c ∗ owns (c : Thread nD τ) (srcM k c) (shr k) (sent A B k c) ∗ land k (peer k c) ∗ debt c (dueFrom j c))
      ⊢ iprop(((flying k c ∗ debt c (dueFrom (j + 1) c)) -∗ WP c (p ⟨⟩) Q)
          -∗ WP c (.op (.enqueueDma src (.remote (Dev.tc n : Thread nD τ) dst (.dma sS) hsc) (.dma sR) hsrc hdst hsem) p) Q) := by
  subst hn hs hsS hsR hj
  rw [← dstM_peer] at hd
  subst hd
  unfold pend land owns debt
  iintro ⟨#HR, ⟨Hat, Ht, Htr⟩, ⟨%fs, %hfs, Hsrc⟩, ⟨%X, %fd, -, Hdst⟩, ⟨%W, HO⟩⟩ Hk
  iapply (Rounds.wp_send_pointsTo 𝒱₀ ER (plan A B) (c : Thread nD τ) none (κ₁ := K (c, .inr (.inl k))) (κ₂ := K (peer k c, .inr (.inr k)))
    (r₁ := 0) (r₂ := 0) (d₁ := false) (d₂ := false) (fd := fd)
    (by rw [duties_send]; exact Finset.mem_singleton_self _) (by rw [duties_recv]; exact Finset.mem_singleton_self _)
    () () N (amount_dst k (peer k c) (recvS k)) (amount_dma A B c (sendS k) false) (amount_dma A B (peer k c) (recvS k) false)
    (dueFrom (k.val + 1) c) (dueFrom_step k c) (W := W)
    (by rw [payload_send]; unfold sendPay owns
        iintro H; iexists fs; isplitr
        · ipureintro; exact hfs
        · iexact H)
    (by rw [payload_recv]; unfold recvPay owns
        iintro H; iexists _; isplitr
        swap
        · iexact H
        · ipureintro; rw [View.read_write_univ, hfs, peer_peer])) $$ [Hsrc Hdst HO Ht Htr]
  · isplitr; · iapply (records_inv A B K (c, .inr (.inl k))); iexact HR
    isplitr; · iapply (records_inv A B K (peer k c, .inr (.inr k))); iexact HR
    isplitl [Hsrc]; · iexact Hsrc
    isplitl [Hdst]; · iexact Hdst
    isplitl [HO]; · iexact HO
    isplitl [Ht]; · iexact Ht
    isplitr; · iapply (records_reached A B K (c, .inr (.inl k))); iexact HR
    isplitl [Htr]; · iexact Htr
    iapply (records_reached A B K (peer k c, .inr (.inr k))); iexact HR
  iintro ⟨Hc, HO⟩
  iapply Hk
  unfold flying
  isplitl [Hat Hc]
  · isplitl [Hat] <;> iassumption
  iexists W; iexact HO

/-- Copy `k` waited for at device `c`: the peer's block has arrived, and the cell's counter is at zero for good. -/
theorem step_recv (k : Fin 12) (c : Dev nD) (j : ℕ) (hj : k.val < j) {sR : DmaSem sig} (hsR : sR = recvS k)
    {src : Memref sig .tc .vmem S256x512 .bf16} {dst : Memref sig .tc .vmem S256x512 .bf16} (hd : dst.view.dmaCredit = N)
    {hsrc : src.view.WordExact} {hdst : dst.view.WordExact}
    {α : Type} {Q : α → sProp 𝕄} {p : PUnit → Prog (TpuEff nD τ sig (Elt F) Λ₀ .tc) α} :
    iprop(records A B K ∗ levAts idx lvl ∗ coming k c ∗ debt c (dueFrom j c))
      ⊢ iprop(((recvPay A B k c ∗ semVal (recvCell k c) 0 ∗ debt c (dueFrom j c)) -∗ WP c (p ⟨⟩) Q)
          -∗ WP c (.op (.waitDma2 sR src dst hsrc hdst) p) Q) := by
  subst hsR
  unfold coming debt
  iintro ⟨#HR, #Hlev, ⟨Hat, Hc⟩, ⟨%W, HO⟩⟩ Hk
  iapply (Rounds.wp_wait_rest_token 𝒱₀ ER (plan A B) (c : Thread nD τ) none (κ := K (c, .inr (.inr k)))
      (wpE_waitDma2_eq 𝒱₀ (c : Thread nD τ) none Set.univ) (Set.mem_univ _) () (O := dueFrom j c) (W := W) (R := 0) (m := 0) (T := ∅)
      (by rw [Nat.zero_add, expect_recv, hd])) $$ [Hc HO Hat]
  · isplitr; · iapply (records_inv A B K (c, .inr (.inr k))); iexact HR
    isplitl [Hc]; · rw [hd]; iexact Hc
    isplitl [HO]; · iexact HO
    isplitr; · iapply (mayWait_dueFrom c (.dma (recvS k)) j (2 + k.val) (lvl_recv k c ()) (by omega)); iexact Hlev
    iexact Hat
  iintro ⟨HO, Hat, -, Hpay⟩
  ihave Hp := (Entails.of_eq (rest_recv A B k c)) $$ Hpay
  imod (Rounds.cell_close ER (plan A B) (Set.mem_univ (K (c, .inr (.inr k)))) (fun h => h) (R := 0 + 1) (duties_later A B (recvCell k c))) $$ [Hat] with Hz
  · isplitr; · iapply (records_inv A B K (c, .inr (.inr k))); iexact HR
    iexact Hat
  iapply Hk
  isplitl [Hp]; · iexact Hp
  isplitl [Hz]; · iexact Hz
  iexists _; iexact HO

/-- Copy `k` of device `c` waited for at its sender, nothing owed: its source is back, and the cell's counter is at zero for good. -/
theorem step_left (k : Fin 12) (c : Dev nD) {sS : DmaSem sig} (hsS : sS = sendS k)
    {src : Memref sig .tc .vmem S256x512 .bf16} {dst : Memref sig .tc .vmem S256x512 .bf16} (hd : dst.view.dmaCredit = N)
    {hsrc : src.view.WordExact} {hdst : dst.view.WordExact}
    {α : Type} {Q : α → sProp 𝕄} {p : PUnit → Prog (TpuEff nD τ sig (Elt F) Λ₀ .tc) α} :
    iprop(records A B K ∗ flying k c ∗ debt c 0)
      ⊢ iprop(((sendPay A B k c ∗ semVal (sendCell k c) 0 ∗ debt c 0) -∗ WP c (p ⟨⟩) Q)
          -∗ WP c (.op (.waitDma2 sS src dst hsrc hdst) p) Q) := by
  subst hsS
  unfold flying debt
  iintro ⟨#HR, ⟨Hat, Hc⟩, ⟨%W, HO⟩⟩ Hk
  iapply (Rounds.wp_wait_rest_token 𝒱₀ ER (plan A B) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send, hd])) $$ [Hc HO Hat]
  · isplitr; · iapply (records_inv A B K (c, .inr (.inl k))); iexact HR
    isplitl [Hc]; · rw [hd]; iexact Hc
    isplitl [HO]; · iexact HO
    isplitr; · rw [MayWait_zero]; iempintro
    iexact Hat
  iintro ⟨HO, Hat, -, Hpay⟩
  ihave Hp := (Entails.of_eq (rest_send A B k c)) $$ Hpay
  imod (Rounds.cell_close ER (plan A B) (Set.mem_univ (K (c, .inr (.inl k)))) (fun h => h) (R := 0 + 1) (duties_later A B (sendCell k c))) $$ [Hat] with Hz
  · isplitr; · iapply (records_inv A B K (c, .inr (.inl k))); iexact HR
    iexact Hat
  iapply Hk
  isplitl [Hp]; · iexact Hp
  isplitl [Hz]; · iexact Hz
  iexists _; iexact HO

/-- The signal to the column partner: the places where its copies land on this device go with it. -/
theorem step_signalX (c n : Dev nD) (hn : n = px c) {α : Type} {Q : α → sProp 𝕄} {p : PUnit → Prog (TpuEff nD τ sig (Elt F) Λ₀ .tc) α} :
    iprop(records A B K ∗ dutyTok ER (barCell (px c)) 0 true ∗ fromX (px c) ∗ debt c (due c))
      ⊢ iprop((debt c (due₁ c) -∗ WP c (p ⟨⟩) Q) -∗ WP c (.op (.semSignal (Dev.tc n : Thread nD τ) barS 1) p) Q) := by
  subst hn
  unfold debt
  iintro ⟨#HR, Ht, Hp, ⟨%W, HO⟩⟩ Hk
  iapply (Rounds.wp_signal 𝒱₀ ER (plan A B) (c : Thread nD τ) none (dst := (px c : Thread nD τ)) (κ := K (px c, .inl ()))
      (d := true) (by rw [duties_bar]; exact Finset.mem_univ _) (amount_bar A B (px c) true) () (due₁ c) rfl) $$ [HO Ht Hp]
  · isplitr; · iapply (records_inv A B K (px c, .inl ())); iexact HR
    isplitl [HO]; · iexact HO
    isplitl [Ht]; · iexact Ht
    isplitl [Hp]; · rw [payload_bar, if_pos rfl]; iexact Hp
    iapply (records_reached A B K (px c, .inl ())); iexact HR
  iintro HO
  iapply Hk; iexists W; iexact HO

/-- The signal to the row partner. -/
theorem step_signalY (c n : Dev nD) (hn : n = py c) {α : Type} {Q : α → sProp 𝕄} {p : PUnit → Prog (TpuEff nD τ sig (Elt F) Λ₀ .tc) α} :
    iprop(records A B K ∗ dutyTok ER (barCell (py c)) 0 false ∗ fromY (py c) ∗ debt c (due₁ c))
      ⊢ iprop((debt c (dueFrom 0 c) -∗ WP c (p ⟨⟩) Q) -∗ WP c (.op (.semSignal (Dev.tc n : Thread nD τ) barS 1) p) Q) := by
  subst hn
  unfold debt
  iintro ⟨#HR, Ht, Hp, ⟨%W, HO⟩⟩ Hk
  iapply (Rounds.wp_signal 𝒱₀ ER (plan A B) (c : Thread nD τ) none (dst := (py c : Thread nD τ)) (κ := K (py c, .inl ()))
      (d := false) (by rw [duties_bar]; exact Finset.mem_univ _) (amount_bar A B (py c) false) () (dueFrom 0 c) rfl) $$ [HO Ht Hp]
  · isplitr; · iapply (records_inv A B K (py c, .inl ())); iexact HR
    isplitl [HO]; · iexact HO
    isplitl [Ht]; · iexact Ht
    isplitl [Hp]; · rw [payload_bar, if_neg Bool.false_ne_true]; iexact Hp
    iapply (records_reached A B K (py c, .inl ())); iexact HR
  iintro HO
  iapply Hk; iexists W; iexact HO

/-- The barrier wait: both partners' landing places are handed over, and the barrier's counter is at zero for good. -/
theorem step_barrier (c : Dev nD) {α : Type} {Q : α → sProp 𝕄} {p : PUnit → Prog (TpuEff nD τ sig (Elt F) Λ₀ .tc) α} :
    iprop(records A B K ∗ levAts idx lvl ∗ (atPos ER (barCell c) 0 ∅ 0 ∗ cred (tallyAt (barCell c) () 2)) ∗ debt c (dueFrom 0 c))
      ⊢ iprop(((fromX c ∗ fromY c ∗ semVal (barCell c) 0 ∗ debt c (dueFrom 0 c)) -∗ WP c (p ⟨⟩) Q)
          -∗ WP c (.op (.semWait barS 2) p) Q) := by
  unfold debt
  iintro ⟨#HR, #Hlev, ⟨Hat, Hc⟩, ⟨%W, HO⟩⟩ Hk
  iapply (Rounds.wp_wait_rest_token 𝒱₀ ER (plan A B) (c : Thread nD τ) none (κ := K (c, .inl ()))
      (wpE_semWait_eq 𝒱₀ (c : Thread nD τ) none Set.univ) (Set.mem_univ _) () (O := dueFrom 0 c) (W := W) (R := 0) (m := 0) (T := ∅)
      (by rw [expect_bar])) $$ [Hc HO Hat]
  · isplitr; · iapply (records_inv A B K (c, .inl ())); iexact HR
    isplitl [Hc]; · iexact Hc
    isplitl [HO]; · iexact HO
    isplitr; · iapply (mayWait_dueFrom c (.reg barS) 0 1 rfl (by omega)); iexact Hlev
    iexact Hat
  iintro ⟨HO, Hat, -, Hpay⟩
  ihave Hp := (Entails.of_eq (rest_bar A B c)) $$ Hpay
  icases Hp with ⟨Hx, Hy⟩
  imod (Rounds.cell_close ER (plan A B) (Set.mem_univ (K (c, .inl ()))) (fun h => h) (R := 0 + 1) (duties_later A B (barCell c))) $$ [Hat] with Hz
  · isplitr; · iapply (records_inv A B K (c, .inl ())); iexact HR
    iexact Hat
  iapply Hk
  isplitl [Hx]; · iexact Hx
  isplitl [Hy]; · iexact Hy
  isplitl [Hz]; · iexact Hz
  iexists _; iexact HO

/-! ## Loads and stores -/

variable {s : Shape} {e : EltTy}

/-- A load of part of an owned buffer reads the part. -/
theorem step_load (c : Dev nD) (m : Memref sig .tc .vmem s e) (r : Rect s) (q : PosShare TreeShare) (X : s.Idx → Elt F e)
    {hl : m.view.LoadsAt r.toLoadRect} {α : Type} {Q : α → sProp 𝕄} {p : (r.shape.Idx → Elt F e) → Prog (TpuEff nD τ sig (Elt F) Λ₀ .tc) α} :
    (owns (c : Thread nD τ) m q X : sProp 𝕄)
      ⊢ iprop((owns (c : Thread nD τ) m q X -∗ WP c (p fun j => X (r.emb j)) Q) -∗ WP c (.op (.load m r.toLoadRect hl) p) Q) := by
  unfold owns
  iintro ⟨%f, %hf, H⟩ Hk
  iapply (wp_load 𝒱₀ (c : Thread nD τ) none Set.univ (m := m) (m.view.setOn_subset_set _)) $$ H; iintro H
  have h : m.view.readAt (Elt F) r.toLoadRect f = fun j => X (r.emb j) := by subst hf; rfl
  rw [h]
  iapply Hk
  iexists f; isplitr
  · ipureintro; exact hf
  · iexact H

/-- A load of a whole owned buffer reads it. -/
theorem step_load_all (c : Dev nD) (m : Memref sig .tc .vmem s e) {o : Fin s.rank → ℕ} (inb : ∀ a, o a + s.size a ≤ s.size a) (q : PosShare TreeShare) (X : s.Idx → Elt F e)
    {hl : m.view.LoadsAt (Rect.unit o s.size inb).toLoadRect} {α : Type} {Q : α → sProp 𝕄} {p : (s.Idx → Elt F e) → Prog (TpuEff nD τ sig (Elt F) Λ₀ .tc) α} :
    (owns (c : Thread nD τ) m q X : sProp 𝕄)
      ⊢ iprop((owns (c : Thread nD τ) m q X -∗ WP c (p X) Q) -∗ WP c (.op (.load m (Rect.unit o s.size inb).toLoadRect hl) p) Q) := by
  have h : (fun j => X ((Rect.unit o s.size inb).emb j)) = X := funext fun j => congrArg X (Rect.emb_unit_full inb j)
  have := step_load (F := F) (Q := Q) c m (Rect.unit o s.size inb) q X (hl := hl) (p := p)
  rw [h] at this
  exact this

/-- A load of the half of a buffer at `o`, owned as the half at the same offset `o'`, reads that half. -/
theorem step_load_half (c : Dev nD) (M : Memref sig .tc .vmem S512x512 .bf16) {o o' : Fin 2 → ℕ} (ho : o = o')
    (h : ∀ a, o a + S256x512.size a ≤ S512x512.size a) (h' : ∀ a, o' a + S256x512.size a ≤ S512x512.size a) (q : PosShare TreeShare) (X : Vec F S256x512 .bf16)
    {hl : M.view.LoadsAt (Rect.unit (s := S512x512) o S256x512.size h).toLoadRect} {α : Type} {Q : α → sProp 𝕄} {p : (Vec F S256x512 .bf16) → Prog (TpuEff nD τ sig (Elt F) Λ₀ .tc) α} :
    (owns (c : Thread nD τ) (half M o' h') q X : sProp 𝕄)
      ⊢ iprop((owns (c : Thread nD τ) (half M o' h') q X -∗ WP c (p X) Q) -∗ WP c (.op (.load M (Rect.unit (s := S512x512) o S256x512.size h).toLoadRect hl) p) Q) := by
  subst ho
  unfold owns
  iintro ⟨%f, %hf, H⟩ Hk
  iapply (wp_load_rect 𝒱₀ (c : Thread nD τ) none Set.univ (m := M) (r := Rect.unit (s := S512x512) o S256x512.size h) subset_rfl) $$ H; iintro H
  have h : (M.access (Rect.unit (s := S512x512) o S256x512.size h)).read (Elt F) f = X := hf
  rw [h]
  iapply Hk
  iexists f; isplitr
  · ipureintro; exact hf
  · iexact H

/-- A store into the half of a buffer at `o`, owned as the half at the same offset `o'`. -/
theorem step_store_half (c : Dev nD) (M : Memref sig .tc .vmem S512x512 .bf16) {o o' : Fin 2 → ℕ} (ho : o = o')
    (h : ∀ a, o a + S256x512.size a ≤ S512x512.size a) (h' : ∀ a, o' a + S256x512.size a ≤ S512x512.size a) (X w : Vec F S256x512 .bf16)
    {hx : (M.access (Rect.unit (s := S512x512) o S256x512.size h)).Stores Finset.univ} {hm : (Finset.univ : Finset (Rect.unit (s := S512x512) o S256x512.size h).shape.Idx) = Finset.univ ∨ ∀ a, (Rect.unit (s := S512x512) o S256x512.size h).stride a = 1}
    {α : Type} {Q : α → sProp 𝕄} {p : PUnit → Prog (TpuEff nD τ sig (Elt F) Λ₀ .tc) α} :
    (owns (c : Thread nD τ) (half M o' h') fullShare X : sProp 𝕄)
      ⊢ iprop((owns (c : Thread nD τ) (half M o' h') fullShare w -∗ WP c (p ⟨⟩) Q)
        -∗ WP c (.op (.store M (Rect.unit (s := S512x512) o S256x512.size h) w Finset.univ hx hm) p) Q) := by
  subst ho
  unfold owns
  iintro ⟨%f, -, H⟩ Hk
  iapply (wp_store 𝒱₀ (c : Thread nD τ) none Set.univ (m := M) (r := Rect.unit (s := S512x512) o S256x512.size h) (Mk := Finset.univ) (w := w) (f := f) (by rw [View.setOn_univ])) $$ H; iintro H
  iapply Hk
  iexists _; isplitr
  swap
  · iexact H
  · ipureintro; exact View.read_write_univ _ _

/-- What a buffer reads after a store into part of it. -/
theorem read_store (m : Memref sig .tc .vmem s e) (r : Rect s) (f : m.view.ty.Contents (Elt F)) (w : r.shape.Idx → Elt F e) :
    m.view.read (Elt F) ((m.access r).write (Elt F) f w Finset.univ) = r.overlay (m.view.read (Elt F) f) w := by
  funext j
  by_cases hj : j ∈ r.set
  · rw [← Rect.map_emb_univ, Finset.mem_map] at hj
    obtain ⟨i, -, rfl⟩ := hj
    rw [Rect.overlay_emb]
    exact congrFun (View.read_write_univ (v := m.access r) f w) i
  · rw [Rect.overlay_of_not_mem _ _ _ hj, View.read_apply, View.read_apply, View.write_of_not_mem]
    intro hm
    have h' : m.view.emb j ∈ (m.view.slice r).set := hm
    rw [View.set_slice, Finset.mem_map] at h'
    obtain ⟨i, hi, he⟩ := h'
    exact hj (m.view.emb.injective he ▸ hi)

/-- A store into part of an owned buffer replaces that part. -/
theorem step_store (c : Dev nD) (m : Memref sig .tc .vmem s e) (r : Rect s) (X : s.Idx → Elt F e) (w : r.shape.Idx → Elt F e)
    {hx : (m.access r).Stores Finset.univ} {hm : (Finset.univ : Finset r.shape.Idx) = Finset.univ ∨ ∀ a, r.stride a = 1}
    {α : Type} {Q : α → sProp 𝕄} {p : PUnit → Prog (TpuEff nD τ sig (Elt F) Λ₀ .tc) α} :
    (owns (c : Thread nD τ) m fullShare X : sProp 𝕄)
      ⊢ iprop((owns (c : Thread nD τ) m fullShare (r.overlay X w) -∗ WP c (p ⟨⟩) Q) -∗ WP c (.op (.store m r w Finset.univ hx hm) p) Q) := by
  unfold owns
  iintro ⟨%f, %hf, H⟩ Hk
  iapply (wp_store 𝒱₀ (c : Thread nD τ) none Set.univ (m := m) (r := r) (Mk := Finset.univ) (View.set_slice_subset _ _)) $$ H; iintro H
  iapply Hk
  iexists _; isplitr
  swap
  · iexact H
  · ipureintro; rw [read_store, hf]

/-- A store over a whole owned buffer. -/
theorem step_store_all (c : Dev nD) (m : Memref sig .tc .vmem s e) {o : Fin s.rank → ℕ} (inb : ∀ a, o a + s.size a ≤ s.size a) (X w : s.Idx → Elt F e)
    {hx : (m.access (Rect.unit o s.size inb)).Stores Finset.univ} {hm : (Finset.univ : Finset (Rect.unit o s.size inb).shape.Idx) = Finset.univ ∨ ∀ a, (Rect.unit o s.size inb).stride a = 1}
    {α : Type} {Q : α → sProp 𝕄} {p : PUnit → Prog (TpuEff nD τ sig (Elt F) Λ₀ .tc) α} :
    (owns (c : Thread nD τ) m fullShare X : sProp 𝕄)
      ⊢ iprop((owns (c : Thread nD τ) m fullShare w -∗ WP c (p ⟨⟩) Q) -∗ WP c (.op (.store m (Rect.unit o s.size inb) w Finset.univ hx hm) p) Q) := by
  have h : (Rect.unit o s.size inb).overlay X w = w := funext fun j => by
    have := (Rect.unit o s.size inb).overlay_emb X w j
    rwa [Rect.emb_unit_full inb j] at this
  have := step_store (F := F) (Q := Q) c m (Rect.unit o s.size inb) X w (hx := hx) (hm := hm) (p := p)
  rw [h] at this
  exact this

end

/-! ## Two halves of a buffer -/

section Halves

variable (c : Dev nD) (M : Memref sig .tc .vmem S512x512 .bf16) {o o' : Fin 2 → ℕ}
  (h : ∀ a, o a + S256x512.size a ≤ S512x512.size a) (h' : ∀ a, o' a + S256x512.size a ≤ S512x512.size a)

/-- The rectangles of the two halves, by a Boolean. -/
def hrs (t : Bool) : Rect S512x512 :=
  Rect.unit (s := S512x512) (bif t then o else o') S256x512.size (by cases t; exacts [h', h])

variable (ho : (o = ![0, 0] ∧ o' = ![256, 0]) ∨ (o = ![256, 0] ∧ o' = ![0, 0]))

include ho

theorem hr_cover (j : S512x512.Idx) : j ∈ (hr o h).set ∨ j ∈ (hr o' h').set := by
  have h0 := (j 0).isLt
  have h1 := (j 1).isLt
  rw [Rect.mem_set_unit, Rect.mem_set_unit]
  rcases ho with ⟨rfl, rfl⟩ | ⟨rfl, rfl⟩ <;> simp only [Fin.forall_fin_two] <;> simp at h0 h1 ⊢ <;> omega

theorem hr_disjoint : Disjoint (hr o h).set (hr o' h').set := by
  rw [Finset.disjoint_left]
  intro j hj hj'
  rw [Rect.mem_set_unit] at hj hj'
  have h0 := hj 0
  have h0' := hj' 0
  rcases ho with ⟨rfl, rfl⟩ | ⟨rfl, rfl⟩ <;> simp at h0 h0' <;> omega

theorem hrs_disjoint (t t' : Bool) (hne : t ≠ t') : Disjoint (hrs h h' t).set (hrs h h' t').set := by
  cases t <;> cases t' <;> first | exact absurd rfl hne | exact hr_disjoint h h' ho | exact (hr_disjoint h h' ho).symm

theorem hrs_cover : (Finset.univ.biUnion fun t => (hrs h h' t).set) = Finset.univ := by
  ext j
  simp only [Finset.mem_biUnion, Finset.mem_univ, true_and, iff_true]
  rcases hr_cover h h' ho j with hj | hj
  exacts [⟨true, hj⟩, ⟨false, hj⟩]

/-- A buffer owned whole is owned half by half. -/
theorem split_halves (q : PosShare TreeShare) (X : Vec F S512x512 .bf16) :
    (owns (c : Thread nD τ) M q X : sProp 𝕄)
      ⊢ iprop(owns (c : Thread nD τ) (half M o h) q (fun j => X ((hr o h).emb j))
          ∗ owns (c : Thread nD τ) (half M o' h') q (fun j => X ((hr o' h').emb j))) := by
  refine (owns_rects (c : Thread nD τ) M q (hrs h h') (fun _ _ => rfl) (hrs_disjoint h h' ho) (hrs_cover h h' ho) X).trans ?_
  rw [bigSep_univ_eq_bigSepL [true, false] (by decide) (by decide)]
  exact Entails.of_eq rfl

/-- Two halves owned are the buffer owned whole. -/
theorem join_halves (q : PosShare TreeShare) (X Y : Vec F S256x512 .bf16) :
    iprop(owns (c : Thread nD τ) (half M o h) q X ∗ owns (c : Thread nD τ) (half M o' h') q Y)
      ⊢ (owns (c : Thread nD τ) M q (glue o o' h h' X Y) : sProp 𝕄) := by
  have hX : (fun j => glue o o' h h' X Y ((hr o h).emb j)) = X := by
    funext j
    unfold glue
    rw [Rect.overlay_of_not_mem, Rect.overlay_emb]
    exact Finset.disjoint_left.mp (hr_disjoint h h' ho) (Finset.mem_map_of_mem _ (Finset.mem_univ j) |> fun hh => (Rect.map_emb_univ (hr o h)) ▸ hh)
  have hY : (fun j => glue o o' h h' X Y ((hr o' h').emb j)) = Y := by
    funext j; unfold glue; rw [Rect.overlay_emb]
  refine .trans ?_ (owns_of_rects (c : Thread nD τ) M q (hrs h h') (fun _ _ => rfl) (hrs_disjoint h h' ho) (hrs_cover h h' ho) (glue o o' h h' X Y))
  rw [bigSep_univ_eq_bigSepL [true, false] (by decide) (by decide)]
  have e : iprop(owns (c : Thread nD τ) (half M o h) q X ∗ owns (c : Thread nD τ) (half M o' h') q Y)
      = (iprop(owns (c : Thread nD τ) (half M o h) q (fun j => glue o o' h h' X Y ((hr o h).emb j))
        ∗ owns (c : Thread nD τ) (half M o' h') q (fun j => glue o o' h h' X Y ((hr o' h').emb j))) : sProp 𝕄) :=
    congrArg₂ (fun U V => iprop(owns (c : Thread nD τ) (half M o h) q U ∗ owns (c : Thread nD τ) (half M o' h') q V)) hX.symm hY.symm
  rw [e]
  exact Entails.of_eq rfl

end Halves

end Cert.Grid

end
-- ==== Proof.Parts1.lean ====
/-
The kernel's body, first half: one statement per part, each over an arbitrary continuation.
-/
module

public import proofs.«01_k».proof.Proof.Steps

@[expose] public section

noncomputable section

namespace Cert.Grid

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A B : Dev nD → Vec F S1024x4096 .f32) (K : Dev nD × CellIx → ℕ)

/-- Device `c` owns the buffer `M`, which reads `X`. -/
abbrev own {s : Shape} {e : EltTy} (c : Dev nD) (M : Memref sig .tc .vmem s e) (X : s.Idx → Elt F e) : sProp 𝕄 := owns (c : Thread nD τ) M fullShare X
/-- Device `c` owns the buffer `M`, whatever it reads. -/
abbrev junk {s : Shape} {e : EltTy} (c : Dev nD) (M : Memref sig .tc .vmem s e) : sProp 𝕄 := iprop(∃ X : s.Idx → Elt F e, own c M X)
/-- A receive cell's and a send cell's counter at zero for good. -/
abbrev zr (k : Fin 12) (c : Dev nD) : sProp 𝕄 := semVal (recvCell k c) 0
abbrev zs (k : Fin 12) (c : Dev nD) : sProp 𝕄 := semVal (sendCell k c) 0
/-- What a device holds for the barrier. -/
def atBar (c : Dev nD) : sProp 𝕄 :=
  iprop((atPos ER (barCell c) 0 ∅ 0 ∗ cred (tallyAt (barCell c) () 2)) ∗ dutyTok ER (barCell (px c)) 0 true ∗ dutyTok ER (barCell (py c)) 0 false)

/-! What each copy brings, with the buffer and the sender spelt out. -/

theorem recvPay_0 (c : Dev nD) : recvPay A B 0 c = own c (half c1aM (k0_off3 c) (k0_off3_inb c)) (sent A B 0 (px c)) := rfl
theorem recvPay_1 (c : Dev nD) : recvPay A B 1 c = own c (half c1bM (k0_off6 c) (k0_off6_inb c)) (sent A B 1 (py c)) := rfl
theorem recvPay_2 (c : Dev nD) : recvPay A B 2 c = own c (c2aM) (sent A B 2 (py c)) := rfl
theorem recvPay_3 (c : Dev nD) : recvPay A B 3 c = own c (c2bM) (sent A B 3 (px c)) := rfl
theorem recvPay_4 (c : Dev nD) : recvPay A B 4 c = own c (half c1aM (k0_off13 c) (k0_off13_inb c)) (sent A B 4 (px c)) := rfl
theorem recvPay_5 (c : Dev nD) : recvPay A B 5 c = own c (half c1bM (k0_off16 c) (k0_off16_inb c)) (sent A B 5 (py c)) := rfl
theorem recvPay_6 (c : Dev nD) : recvPay A B 6 c = own c (r3aM) (sent A B 6 (py c)) := rfl
theorem recvPay_7 (c : Dev nD) : recvPay A B 7 c = own c (half r4aM (k0_off13 c) (k0_off13_inb c)) (sent A B 7 (px c)) := rfl
theorem recvPay_8 (c : Dev nD) : recvPay A B 8 c = own c (r3bM) (sent A B 8 (px c)) := rfl
theorem recvPay_9 (c : Dev nD) : recvPay A B 9 c = own c (half r4bM (k0_off16 c) (k0_off16_inb c)) (sent A B 9 (py c)) := rfl
theorem recvPay_10 (c : Dev nD) : recvPay A B 10 c = own c (half r4aM (k0_off3 c) (k0_off3_inb c)) (sent A B 10 (px c)) := rfl
theorem recvPay_11 (c : Dev nD) : recvPay A B 11 c = own c (half r4bM (k0_off6 c) (k0_off6_inb c)) (sent A B 11 (py c)) := rfl

/-- The first part reads the device's number. -/
theorem run_part1 (c : Dev nD) {α : Type} {Q : α → sProp 𝕄} {p : (Σ' (_ : Dev nD) (_ : BitVec 32) (_ : BitVec 32) (_ : BitVec 32) (_ : BitVec 32), BitVec 32) → Prog (TpuEff nD τ sig (Elt F) Λ₀ .tc) α} :
    iprop(∀ v2 v19 v36 v38 v39, WP c (p ⟨c, v2, v19, v36, v38, v39⟩) Q)
      ⊢ WP c (k0_part1 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 >>= p) Q := by
  rw [k0_part1_eq_skeleton]; unfold k0_part1_skel
  simp only [Prog.lift, Prog.bind_op, Prog.bind_ret, Prog.pure_eq_ret, wp_deviceId]
  iintro Hk
  iapply Hk

/-- The barrier: the device hands its landing places to both partners and receives theirs. -/
theorem run_part2 (c : Dev nD) (w0 w1 w2 w3 w4 : BitVec 32) {α : Type} {Q : α → sProp 𝕄} {p : (Σ' (_ : BitVec 32) (_ : BitVec 32) (_ : BitVec 32) (_ : BitVec 32) (_ : BitVec 32) (_ : BitVec 32) (_ : BitVec 32) (_ : BitVec 32), BitVec 32) → Prog (TpuEff nD τ sig (Elt F) Λ₀ .tc) α} :
    iprop(records A B K ∗ levAts idx lvl ∗ atBar c ∗ fromX (px c) ∗ fromY (py c) ∗ debt c (due c))
      ⊢ iprop((∀ r, ((fromX c ∗ fromY c ∗ semVal (barCell c) 0 ∗ debt c (dueFrom 0 c)) -∗ WP c (p r) Q))
        -∗ WP c (k0_part2 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 w4 >>= p) Q) := by
  rw [k0_part2_eq_skeleton]; unfold k0_part2_skel
  simp only [semSignalWord, semWaitWord, Prog.lift, Prog.bind_op, Prog.bind_ret, Prog.pure_eq_ret, wp_deviceId]
  iintro ⟨#HR, #HL, Hb, Hx, Hy, HO⟩ Hk
  unfold atBar
  icases Hb with ⟨Hb, Htx, Hty⟩
  iapply (step_signalX A B K c _ (dev1_eq c)) $$ [Htx Hx HO]
  · isplitr; · iexact HR
    isplitl [Htx]; · iexact Htx
    isplitl [Hx]; · iexact Hx
    iexact HO
  iintro HO
  iapply (step_signalY A B K c _ (dev2_eq c)) $$ [Hty Hy HO]
  · isplitr; · iexact HR
    isplitl [Hty]; · iexact Hty
    isplitl [Hy]; · iexact Hy
    iexact HO
  iintro HO
  iapply (step_barrier A B K c) $$ [Hb HO]
  · isplitr; · iexact HR
    isplitr; · iexact HL
    isplitl [Hb]; · iexact Hb
    iexact HO
  iintro ⟨Hx, Hy, Hz, HO⟩
  iapply Hk
  isplitl [Hx]; · iexact Hx
  isplitl [Hy]; · iexact Hy
  isplitl [Hz]; · iexact Hz
  iexact HO

/-- Copy 0 is computed and started. -/
theorem run_part3 (c : Dev nD) (w0 w1 w2 w3 w4 : BitVec 32) {α : Type} {Q : α → sProp 𝕄} {p : Vec F S256x4096 .f32 → Prog (TpuEff nD τ sig (Elt F) Λ₀ .tc) α} :
    iprop(records A B K ∗ own c dyM (A c) ∗ own c wM (B c) ∗ junk c (half s1aM (k0_off3 c) (k0_off3_inb c)) ∗ pend 0 c ∗ land 0 (px c) ∗ debt c (dueFrom 0 c))
      ⊢ iprop((((own c dyM (A c) ∗ own c wM (B c) ∗ flying 0 c ∗ debt c (dueFrom 1 c)) -∗ WP c (p (rows256 (A c) (k0_off4 c) (k0_off4_inb c))) Q))
        -∗ WP c (k0_part3 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 w4 >>= p) Q) := by
  rw [k0_part3_eq_skeleton]; unfold k0_part3_skel
  simp only [semSignalWord, semWaitWord, Prog.lift, Prog.bind_op, Prog.bind_ret, Prog.pure_eq_ret, wp_deviceId]
  iintro ⟨#HR, Hdy, Hw, ⟨%s, Hs⟩, Hp0, Hl0, HO⟩ Hk
  iapply (step_load c dyM _ fullShare (A c)) $$ Hdy; iintro Hdy
  iapply (step_load c wM _ fullShare (B c)) $$ Hw; iintro Hw
  iapply (step_load_half c s1aM (off2_off3 c) _ _ fullShare s) $$ Hs; iintro Hs
  iapply (step_store_half c s1aM (off2_off3 c) _ _ s _) $$ Hs; iintro Hs
  iapply (step_send A B K 0 c _ 0 rfl (dev3_eq c) rfl rfl rfl rfl) $$ [Hp0 Hs Hl0 HO]
  · isplitr; · iexact HR
    isplitl [Hp0]; · iexact Hp0
    isplitl [Hs]; · iexact Hs
    isplitl [Hl0]; · iexact Hl0
    iexact HO
  iintro ⟨Hf0, HO⟩
  iapply (step_load c dyM _ fullShare (A c)) $$ Hdy; iintro Hdy
  iapply Hk
  isplitl [Hdy]; · iexact Hdy
  isplitl [Hw]; · iexact Hw
  isplitl [Hf0]; · iexact Hf0
  iexact HO

/-- Copy 1 is computed and started. -/
theorem run_part4 (c : Dev nD) (w0 w1 w2 w3 : BitVec 32) {α : Type} {Q : α → sProp 𝕄} {p : FVec F S256x512 .f32 → Prog (TpuEff nD τ sig (Elt F) Λ₀ .tc) α} :
    iprop(records A B K ∗ own c dyM (A c) ∗ own c wM (B c) ∗ junk c (half s1bM (k0_off6 c) (k0_off6_inb c)) ∗ pend 1 c ∗ land 1 (py c) ∗ debt c (dueFrom 1 c))
      ⊢ iprop((((own c dyM (A c) ∗ own c wM (B c) ∗ flying 1 c ∗ debt c (dueFrom 2 c)) -∗ WP c (p (own2 A B c)) Q))
        -∗ WP c (k0_part4 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 (rows256 (A c) (k0_off4 c) (k0_off4_inb c)) >>= p) Q) := by
  rw [k0_part4_eq_skeleton]; unfold k0_part4_skel
  simp only [semSignalWord, semWaitWord, Prog.lift, Prog.bind_op, Prog.bind_ret, Prog.pure_eq_ret, wp_deviceId]
  iintro ⟨#HR, Hdy, Hw, ⟨%s, Hs⟩, Hp1, Hl1, HO⟩ Hk
  iapply (step_load c wM _ fullShare (B c)) $$ Hw; iintro Hw
  iapply (step_load_half c s1bM (off5_off6 c) _ _ fullShare s) $$ Hs; iintro Hs
  iapply (step_store_half c s1bM (off5_off6 c) _ _ s _) $$ Hs; iintro Hs
  iapply (step_send A B K 1 c _ 1 rfl (dev4_eq c) rfl rfl rfl rfl) $$ [Hp1 Hs Hl1 HO]
  · isplitr; · iexact HR
    isplitl [Hp1]; · iexact Hp1
    isplitl [Hs]; · iexact Hs
    isplitl [Hl1]; · iexact Hl1
    iexact HO
  iintro ⟨Hf1, HO⟩
  iapply (step_load c dyM _ fullShare (A c)) $$ Hdy; iintro Hdy
  iapply (step_load c wM _ fullShare (B c)) $$ Hw; iintro Hw
  iapply Hk
  isplitl [Hdy]; · iexact Hdy
  isplitl [Hw]; · iexact Hw
  isplitl [Hf1]; · iexact Hf1
  iexact HO

/-- Copy 0 arrives; its sum is stored in the result and sent on as copy 2; copy 1 arrives. -/
theorem run_part5 (c : Dev nD) (w0 w1 w2 w3 w4 : BitVec 32) (f : Vec F S1024x1024 .f32) {α : Type} {Q : α → sProp 𝕄} {p : (Σ' (_ : FVec F S256x512 .f32), BitVec 32) → Prog (TpuEff nD τ sig (Elt F) Λ₀ .tc) α} :
    iprop(records A B K ∗ levAts idx lvl ∗ own c dyM (A c) ∗ own c wM (B c) ∗ own c outM f ∗ junk c s2aM ∗ pend 2 c ∗ land 2 (py c) ∗ coming 0 c ∗ coming 1 c ∗ debt c (dueFrom 2 c))
      ⊢ iprop((((own c dyM (A c) ∗ own c wM (B c) ∗ own c outM (out1 A B c f) ∗ flying 2 c ∗ recvPay A B 0 c ∗ zr 0 c ∗ recvPay A B 1 c ∗ zr 1 c ∗ debt c (dueFrom 3 c)) -∗ WP c (p ⟨own3 A B c, Scalar.subi 1#32 w0⟩) Q))
        -∗ WP c (k0_part5 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 w4 (own2 A B c) >>= p) Q) := by
  rw [k0_part5_eq_skeleton]; unfold k0_part5_skel
  simp only [semSignalWord, semWaitWord, Prog.lift, Prog.bind_op, Prog.bind_ret, Prog.pure_eq_ret, wp_deviceId]
  iintro ⟨#HR, #HL, Hdy, Hw, Ho, ⟨%s, Hs⟩, Hp2, Hl2, Hc0, Hc1, HO⟩ Hk
  iapply (step_recv A B K 0 c 2 (by decide) rfl (credit_dst 0 c)) $$ [Hc0 HO]
  · isplitr; · iexact HR
    isplitr; · iexact HL
    isplitl [Hc0]; · iexact Hc0
    iexact HO
  iintro ⟨Hd0, Hz0, HO⟩
  ihave Hd0 := (Entails.of_eq (recvPay_0 A B c)) $$ Hd0
  iapply (step_load_half c c1aM (off2_off3 c) _ _ fullShare _) $$ Hd0; iintro Hd0
  iapply (step_load c outM _ fullShare f) $$ Ho; iintro Ho
  iapply (step_store c outM _ f _) $$ Ho; iintro Ho
  iapply (step_load_all c s2aM _ fullShare s) $$ Hs; iintro Hs
  iapply (step_store_all c s2aM _ s _) $$ Hs; iintro Hs
  iapply (step_send A B K 2 c _ 2 rfl (dev5_eq c) rfl rfl rfl rfl) $$ [Hp2 Hs Hl2 HO]
  · isplitr; · iexact HR
    isplitl [Hp2]; · iexact Hp2
    isplitl [Hs]; · iexact Hs
    isplitl [Hl2]; · iexact Hl2
    iexact HO
  iintro ⟨Hf2, HO⟩
  iapply (step_load c dyM _ fullShare (A c)) $$ Hdy; iintro Hdy
  iapply (step_load c wM _ fullShare (B c)) $$ Hw; iintro Hw
  iapply (step_recv A B K 1 c 3 (by decide) rfl (credit_dst 1 c)) $$ [Hc1 HO]
  · isplitr; · iexact HR
    isplitr; · iexact HL
    isplitl [Hc1]; · iexact Hc1
    iexact HO
  iintro ⟨Hd1, Hz1, HO⟩
  iapply Hk
  isplitl [Hdy]; · iexact Hdy
  isplitl [Hw]; · iexact Hw
  isplitl [Ho]; · iexact Ho
  isplitl [Hf2]; · iexact Hf2
  isplitl [Hd0]; · rw [recvPay_0]; iexact Hd0
  isplitl [Hz0]; · iexact Hz0
  isplitl [Hd1]; · iexact Hd1
  isplitl [Hz1]; · iexact Hz1
  iexact HO

/-- The sum with copy 1 is stored in the result and sent on as copy 3; copy 4 is computed. -/
theorem run_part6 (c : Dev nD) (w0 w1 w2 w3 w4 : BitVec 32) (f : Vec F S1024x1024 .f32) {α : Type} {Q : α → sProp 𝕄} {p : PUnit → Prog (TpuEff nD τ sig (Elt F) Λ₀ .tc) α} :
    iprop(records A B K ∗ own c dyM (A c) ∗ own c wM (B c) ∗ own c outM (out1 A B c f) ∗ junk c s2bM ∗ junk c (half s1aM (k0_off13 c) (k0_off13_inb c)) ∗ pend 3 c ∗ land 3 (px c) ∗ recvPay A B 1 c ∗ debt c (dueFrom 3 c))
      ⊢ iprop((((own c dyM (A c) ∗ own c wM (B c) ∗ own c outM (out2 A B c f) ∗ own c (half s1aM (k0_off13 c) (k0_off13_inb c)) (sent A B 4 c) ∗ flying 3 c ∗ recvPay A B 1 c ∗ debt c (dueFrom 4 c)) -∗ WP c (p ⟨⟩) Q))
        -∗ WP c (k0_part6 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 (own3 A B c) w4 >>= p) Q) := by
  rw [k0_part6_eq_skeleton]; unfold k0_part6_skel
  simp only [semSignalWord, semWaitWord, Prog.lift, Prog.bind_op, Prog.bind_ret, Prog.pure_eq_ret, wp_deviceId]
  iintro ⟨#HR, Hdy, Hw, Ho, ⟨%s, Hs⟩, ⟨%t, Ht⟩, Hp3, Hl3, Hd1, HO⟩ Hk
  ihave Hd1 := (Entails.of_eq (recvPay_1 A B c)) $$ Hd1
  iapply (step_load_half c c1bM (off5_off6 c) _ _ fullShare _) $$ Hd1; iintro Hd1
  iapply (step_load c outM _ fullShare _) $$ Ho; iintro Ho
  iapply (step_store c outM _ _ _) $$ Ho; iintro Ho
  iapply (step_load_all c s2bM _ fullShare s) $$ Hs; iintro Hs
  iapply (step_store_all c s2bM _ s _) $$ Hs; iintro Hs
  iapply (step_send A B K 3 c _ 3 rfl (dev6_eq c) rfl rfl rfl rfl) $$ [Hp3 Hs Hl3 HO]
  · isplitr; · iexact HR
    isplitl [Hp3]; · iexact Hp3
    isplitl [Hs]; · iexact Hs
    isplitl [Hl3]; · iexact Hl3
    iexact HO
  iintro ⟨Hf3, HO⟩
  iapply (step_load c dyM _ fullShare (A c)) $$ Hdy; iintro Hdy
  iapply (step_load c wM _ fullShare (B c)) $$ Hw; iintro Hw
  iapply (step_load_half c s1aM (off12_off13 c) _ _ fullShare t) $$ Ht; iintro Ht
  iapply (step_store_half c s1aM (off12_off13 c) _ _ t _) $$ Ht; iintro Ht
  iapply Hk
  isplitl [Hdy]; · iexact Hdy
  isplitl [Hw]; · iexact Hw
  isplitl [Ho]; · iexact Ho
  isplitl [Ht]; · iexact Ht
  isplitl [Hf3]; · iexact Hf3
  isplitl [Hd1]; · rw [recvPay_1]; iexact Hd1
  iexact HO

/-- Copy 4 is started; copy 5 is computed and started. -/
theorem run_part7 (c : Dev nD) (w0 w1 w2 w3 w4 : BitVec 32) {α : Type} {Q : α → sProp 𝕄} {p : PUnit → Prog (TpuEff nD τ sig (Elt F) Λ₀ .tc) α} :
    iprop(records A B K ∗ own c dyM (A c) ∗ own c wM (B c) ∗ own c (half s1aM (k0_off13 c) (k0_off13_inb c)) (sent A B 4 c) ∗ junk c (half s1bM (k0_off16 c) (k0_off16_inb c)) ∗ pend 4 c ∗ land 4 (px c) ∗ pend 5 c ∗ land 5 (py c) ∗ debt c (dueFrom 4 c))
      ⊢ iprop((((own c dyM (A c) ∗ own c wM (B c) ∗ flying 4 c ∗ flying 5 c ∗ debt c (dueFrom 6 c)) -∗ WP c (p ⟨⟩) Q))
        -∗ WP c (k0_part7 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 w4 >>= p) Q) := by
  rw [k0_part7_eq_skeleton]; unfold k0_part7_skel
  simp only [semSignalWord, semWaitWord, Prog.lift, Prog.bind_op, Prog.bind_ret, Prog.pure_eq_ret, wp_deviceId]
  iintro ⟨#HR, Hdy, Hw, Hs, ⟨%t, Ht⟩, Hp4, Hl4, Hp5, Hl5, HO⟩ Hk
  iapply (step_send A B K 4 c _ 4 rfl (dev7_eq c) rfl rfl rfl rfl) $$ [Hp4 Hs Hl4 HO]
  · isplitr; · iexact HR
    isplitl [Hp4]; · iexact Hp4
    isplitl [Hs]; · iexact Hs
    isplitl [Hl4]; · iexact Hl4
    iexact HO
  iintro ⟨Hf4, HO⟩
  iapply (step_load c dyM _ fullShare (A c)) $$ Hdy; iintro Hdy
  iapply (step_load c wM _ fullShare (B c)) $$ Hw; iintro Hw
  iapply (step_load_half c s1bM (off15_off16 c) _ _ fullShare t) $$ Ht; iintro Ht
  iapply (step_store_half c s1bM (off15_off16 c) _ _ t _) $$ Ht; iintro Ht
  iapply (step_send A B K 5 c _ 5 rfl (dev8_eq c) rfl rfl rfl rfl) $$ [Hp5 Ht Hl5 HO]
  · isplitr; · iexact HR
    isplitl [Hp5]; · iexact Hp5
    isplitl [Ht]; · iexact Ht
    isplitl [Hl5]; · iexact Hl5
    iexact HO
  iintro ⟨Hf5, HO⟩
  iapply Hk
  isplitl [Hdy]; · iexact Hdy
  isplitl [Hw]; · iexact Hw
  isplitl [Hf4]; · iexact Hf4
  isplitl [Hf5]; · iexact Hf5
  iexact HO

end Cert.Grid

end
-- ==== Proof.Parts2.lean ====
/-
The kernel's body, second half: one statement per part, each over an arbitrary continuation.
-/
module

public import proofs.«01_k».proof.Proof.Parts1

@[expose] public section

noncomputable section

namespace Cert.Grid

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A B : Dev nD → Vec F S1024x4096 .f32) (K : Dev nD × CellIx → ℕ)

/-- Copies 4 and 2 arrive; the first block completed is stored in the result and in its send buffer. -/
theorem run_part8 (c : Dev nD) (w0 w1 w2 w3 : BitVec 32) (f : Vec F S1024x1024 .f32) {α : Type} {Q : α → sProp 𝕄} {p : PUnit → Prog (TpuEff nD τ sig (Elt F) Λ₀ .tc) α} :
    iprop(records A B K ∗ levAts idx lvl ∗ own c dyM (A c) ∗ own c wM (B c) ∗ own c outM (out2 A B c f) ∗ junk c s3aM ∗ coming 4 c ∗ coming 2 c ∗ debt c (dueFrom 6 c))
      ⊢ iprop((((own c dyM (A c) ∗ own c wM (B c) ∗ own c outM (out3 A B c f) ∗ own c s3aM (partA A B c) ∗ recvPay A B 4 c ∗ zr 4 c ∗ recvPay A B 2 c ∗ zr 2 c ∗ debt c (dueFrom 6 c)) -∗ WP c (p ⟨⟩) Q))
        -∗ WP c (k0_part8 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 >>= p) Q) := by
  rw [k0_part8_eq_skeleton]; unfold k0_part8_skel
  simp only [semSignalWord, semWaitWord, Prog.lift, Prog.bind_op, Prog.bind_ret, Prog.pure_eq_ret, wp_deviceId]
  iintro ⟨#HR, #HL, Hdy, Hw, Ho, ⟨%s, Hs⟩, Hc4, Hc2, HO⟩ Hk
  iapply (step_load c dyM _ fullShare (A c)) $$ Hdy; iintro Hdy
  iapply (step_load c wM _ fullShare (B c)) $$ Hw; iintro Hw
  iapply (step_recv A B K 4 c 6 (by decide) rfl (credit_dst 4 c)) $$ [Hc4 HO]
  · isplitr; · iexact HR
    isplitr; · iexact HL
    isplitl [Hc4]; · iexact Hc4
    iexact HO
  iintro ⟨Hd4, Hz4, HO⟩
  ihave Hd4 := (Entails.of_eq (recvPay_4 A B c)) $$ Hd4
  iapply (step_recv A B K 2 c 6 (by decide) rfl (credit_dst 2 c)) $$ [Hc2 HO]
  · isplitr; · iexact HR
    isplitr; · iexact HL
    isplitl [Hc2]; · iexact Hc2
    iexact HO
  iintro ⟨Hd2, Hz2, HO⟩
  ihave Hd2 := (Entails.of_eq (recvPay_2 A B c)) $$ Hd2
  iapply (step_load_half c c1aM (off12_off13 c) _ _ fullShare _) $$ Hd4; iintro Hd4
  iapply (step_load_all c c2aM _ fullShare _) $$ Hd2; iintro Hd2
  iapply (step_load c outM _ fullShare _) $$ Ho; iintro Ho
  iapply (step_store c outM _ _ _) $$ Ho; iintro Ho
  iapply (step_load_all c s3aM _ fullShare s) $$ Hs; iintro Hs
  iapply (step_store_all c s3aM _ s _) $$ Hs; iintro Hs
  iapply Hk
  isplitl [Hdy]; · iexact Hdy
  isplitl [Hw]; · iexact Hw
  isplitl [Ho]; · iexact Ho
  isplitl [Hs]; · iexact Hs
  isplitl [Hd4]; · rw [recvPay_4]; iexact Hd4
  isplitl [Hz4]; · iexact Hz4
  isplitl [Hd2]; · rw [recvPay_2]; iexact Hd2
  isplitl [Hz2]; · iexact Hz2
  iexact HO

/-- The first completed block is sent to both partners as copies 6 and 7; copies 5 and 3 arrive. -/
theorem run_part9 (c : Dev nD) (w0 w1 w2 w3 w4 : BitVec 32) {α : Type} {Q : α → sProp 𝕄} {p : (Σ' (_ : FVec F S256x512 .f32), FVec F S256x512 .f32) → Prog (TpuEff nD τ sig (Elt F) Λ₀ .tc) α} :
    iprop(records A B K ∗ levAts idx lvl ∗ own c dyM (A c) ∗ own c wM (B c) ∗ own c s3aM (partA A B c) ∗ pend 6 c ∗ land 6 (py c) ∗ pend 7 c ∗ land 7 (px c) ∗ coming 5 c ∗ coming 3 c ∗ debt c (dueFrom 6 c))
      ⊢ iprop((((own c dyM (A c) ∗ own c wM (B c) ∗ flying 6 c ∗ flying 7 c ∗ recvPay A B 5 c ∗ zr 5 c ∗ recvPay A B 3 c ∗ zr 3 c ∗ debt c (dueFrom 8 c)) -∗ WP c (p ⟨own8 A B c, k0_pay14 (part5 A B (py c))⟩) Q))
        -∗ WP c (k0_part9 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 w4 >>= p) Q) := by
  rw [k0_part9_eq_skeleton]; unfold k0_part9_skel
  simp only [semSignalWord, semWaitWord, Prog.lift, Prog.bind_op, Prog.bind_ret, Prog.pure_eq_ret, wp_deviceId]
  iintro ⟨#HR, #HL, Hdy, Hw, Hs, Hp6, Hl6, Hp7, Hl7, Hc5, Hc3, HO⟩ Hk
  ihave Hs2 := (owns_halves (c : Thread nD τ) s3aM fullShare (partA A B c)).1 $$ Hs
  icases Hs2 with ⟨Hs, Hs2⟩
  iapply (step_send A B K 6 c _ 6 rfl (dev9_eq c) rfl rfl rfl rfl) $$ [Hp6 Hs Hl6 HO]
  · isplitr; · iexact HR
    isplitl [Hp6]; · iexact Hp6
    isplitl [Hs]; · iexact Hs
    isplitl [Hl6]; · iexact Hl6
    iexact HO
  iintro ⟨Hf6, HO⟩
  iapply (step_send A B K 7 c _ 7 rfl (dev10_eq c) rfl rfl rfl rfl) $$ [Hp7 Hs2 Hl7 HO]
  · isplitr; · iexact HR
    isplitl [Hp7]; · iexact Hp7
    isplitl [Hs2]; · iexact Hs2
    isplitl [Hl7]; · iexact Hl7
    iexact HO
  iintro ⟨Hf7, HO⟩
  iapply (step_load c dyM _ fullShare (A c)) $$ Hdy; iintro Hdy
  iapply (step_load c wM _ fullShare (B c)) $$ Hw; iintro Hw
  iapply (step_recv A B K 5 c 8 (by decide) rfl (credit_dst 5 c)) $$ [Hc5 HO]
  · isplitr; · iexact HR
    isplitr; · iexact HL
    isplitl [Hc5]; · iexact Hc5
    iexact HO
  iintro ⟨Hd5, Hz5, HO⟩
  ihave Hd5 := (Entails.of_eq (recvPay_5 A B c)) $$ Hd5
  iapply (step_recv A B K 3 c 8 (by decide) rfl (credit_dst 3 c)) $$ [Hc3 HO]
  · isplitr; · iexact HR
    isplitr; · iexact HL
    isplitl [Hc3]; · iexact Hc3
    iexact HO
  iintro ⟨Hd3, Hz3, HO⟩
  iapply (step_load_half c c1bM (off15_off16 c) _ _ fullShare _) $$ Hd5; iintro Hd5
  iapply Hk
  isplitl [Hdy]; · iexact Hdy
  isplitl [Hw]; · iexact Hw
  isplitl [Hf6]; · iexact Hf6
  isplitl [Hf7]; · iexact Hf7
  isplitl [Hd5]; · rw [recvPay_5]; iexact Hd5
  isplitl [Hz5]; · iexact Hz5
  isplitl [Hd3]; · iexact Hd3
  isplitl [Hz3]; · iexact Hz3
  iexact HO

/-- The second block completed is stored in the result and sent as copies 8 and 9; copy 6 arrives. -/
theorem run_part10 (c : Dev nD) (w0 w1 w2 w3 w4 : BitVec 32) (f : Vec F S1024x1024 .f32) {α : Type} {Q : α → sProp 𝕄} {p : PUnit → Prog (TpuEff nD τ sig (Elt F) Λ₀ .tc) α} :
    iprop(records A B K ∗ levAts idx lvl ∗ own c outM (out3 A B c f) ∗ junk c s3bM ∗ recvPay A B 3 c ∗ pend 8 c ∗ land 8 (px c) ∗ pend 9 c ∗ land 9 (py c) ∗ coming 6 c ∗ debt c (dueFrom 8 c))
      ⊢ iprop((((own c outM (out4 A B c f) ∗ recvPay A B 3 c ∗ flying 8 c ∗ flying 9 c ∗ recvPay A B 6 c ∗ zr 6 c ∗ debt c (dueFrom 10 c)) -∗ WP c (p ⟨⟩) Q))
        -∗ WP c (k0_part10 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 w4 (own8 A B c) (k0_pay14 (part5 A B (py c))) >>= p) Q) := by
  rw [k0_part10_eq_skeleton]; unfold k0_part10_skel
  simp only [semSignalWord, semWaitWord, Prog.lift, Prog.bind_op, Prog.bind_ret, Prog.pure_eq_ret, wp_deviceId]
  iintro ⟨#HR, #HL, Ho, ⟨%s, Hs⟩, Hd3, Hp8, Hl8, Hp9, Hl9, Hc6, HO⟩ Hk
  ihave Hd3 := (Entails.of_eq (recvPay_3 A B c)) $$ Hd3
  iapply (step_load_all c c2bM _ fullShare _) $$ Hd3; iintro Hd3
  iapply (step_load c outM _ fullShare _) $$ Ho; iintro Ho
  iapply (step_store c outM _ _ _) $$ Ho; iintro Ho
  iapply (step_load_all c s3bM _ fullShare s) $$ Hs; iintro Hs
  iapply (step_store_all c s3bM _ s _) $$ Hs; iintro Hs
  ihave Hs := (show (own c s3bM (k0_pay16 (own8 A B c) (k0_pay14 (part5 A B (py c))) (sent A B 3 (px c))) : sProp 𝕄) ⊢ own c s3bM (partB A B c) from Entails.of_eq rfl) $$ Hs
  ihave Hs2 := (owns_halves (c : Thread nD τ) s3bM fullShare (partB A B c)).1 $$ Hs
  icases Hs2 with ⟨Hs, Hs2⟩
  iapply (step_send A B K 8 c _ 8 rfl (dev11_eq c) rfl rfl rfl rfl) $$ [Hp8 Hs Hl8 HO]
  · isplitr; · iexact HR
    isplitl [Hp8]; · iexact Hp8
    isplitl [Hs]; · iexact Hs
    isplitl [Hl8]; · iexact Hl8
    iexact HO
  iintro ⟨Hf8, HO⟩
  iapply (step_send A B K 9 c _ 9 rfl (dev12_eq c) rfl rfl rfl rfl) $$ [Hp9 Hs2 Hl9 HO]
  · isplitr; · iexact HR
    isplitl [Hp9]; · iexact Hp9
    isplitl [Hs2]; · iexact Hs2
    isplitl [Hl9]; · iexact Hl9
    iexact HO
  iintro ⟨Hf9, HO⟩
  iapply (step_recv A B K 6 c 10 (by decide) rfl (credit_dst 6 c)) $$ [Hc6 HO]
  · isplitr; · iexact HR
    isplitr; · iexact HL
    isplitl [Hc6]; · iexact Hc6
    iexact HO
  iintro ⟨Hd6, Hz6, HO⟩
  iapply Hk
  isplitl [Ho]; · iexact Ho
  isplitl [Hd3]; · rw [recvPay_3]; iexact Hd3
  isplitl [Hf8]; · iexact Hf8
  isplitl [Hf9]; · iexact Hf9
  isplitl [Hd6]; · iexact Hd6
  isplitl [Hz6]; · iexact Hz6
  iexact HO

/-- What copies 6 and 8 brought is passed on as copies 10 and 11 and stored in the result; copy 7 arrives. -/
theorem run_part11 (c : Dev nD) (w0 w1 w2 w3 w4 : BitVec 32) (f : Vec F S1024x1024 .f32) {α : Type} {Q : α → sProp 𝕄} {p : PUnit → Prog (TpuEff nD τ sig (Elt F) Λ₀ .tc) α} :
    iprop(records A B K ∗ levAts idx lvl ∗ own c outM (out4 A B c f) ∗ recvPay A B 6 c ∗ pend 10 c ∗ land 10 (px c) ∗ coming 8 c ∗ pend 11 c ∗ land 11 (py c) ∗ coming 7 c ∗ debt c (dueFrom 10 c))
      ⊢ iprop((((own c outM (out6 A B c f) ∗ flying 10 c ∗ owns (c : Thread nD τ) r3aM fullShare.right (sent A B 10 c) ∗ zr 8 c ∗ flying 11 c ∗ owns (c : Thread nD τ) r3bM fullShare.right (sent A B 11 c) ∗ recvPay A B 7 c ∗ zr 7 c ∗ debt c (dueFrom 12 c)) -∗ WP c (p ⟨⟩) Q))
        -∗ WP c (k0_part11 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 w4 >>= p) Q) := by
  rw [k0_part11_eq_skeleton]; unfold k0_part11_skel
  simp only [semSignalWord, semWaitWord, Prog.lift, Prog.bind_op, Prog.bind_ret, Prog.pure_eq_ret, wp_deviceId]
  iintro ⟨#HR, #HL, Ho, Hd6, Hp10, Hl10, Hc8, Hp11, Hl11, Hc7, HO⟩ Hk
  ihave Hd6 := (Entails.of_eq (recvPay_6 A B c)) $$ Hd6
  ihave Hd6 := (show (own c r3aM (sent A B 6 (py c)) : sProp 𝕄) ⊢ own c r3aM (sent A B 10 c) from Entails.of_eq rfl) $$ Hd6
  ihave Hs2 := (owns_halves (c : Thread nD τ) r3aM fullShare (sent A B 10 c)).1 $$ Hd6
  icases Hs2 with ⟨Hs, Hra⟩
  iapply (step_send A B K 10 c _ 10 rfl (dev13_eq c) rfl rfl rfl rfl) $$ [Hp10 Hs Hl10 HO]
  · isplitr; · iexact HR
    isplitl [Hp10]; · iexact Hp10
    isplitl [Hs]; · iexact Hs
    isplitl [Hl10]; · iexact Hl10
    iexact HO
  iintro ⟨Hf10, HO⟩
  iapply (step_load_all c r3aM _ fullShare.right _) $$ Hra; iintro Hra
  iapply (step_load c outM _ fullShare _) $$ Ho; iintro Ho
  iapply (step_store c outM _ _ _) $$ Ho; iintro Ho
  iapply (step_recv A B K 8 c 11 (by decide) rfl (credit_dst 8 c)) $$ [Hc8 HO]
  · isplitr; · iexact HR
    isplitr; · iexact HL
    isplitl [Hc8]; · iexact Hc8
    iexact HO
  iintro ⟨Hd8, Hz8, HO⟩
  ihave Hd8 := (Entails.of_eq (recvPay_8 A B c)) $$ Hd8
  ihave Hd8 := (show (own c r3bM (sent A B 8 (px c)) : sProp 𝕄) ⊢ own c r3bM (sent A B 11 c) from Entails.of_eq rfl) $$ Hd8
  ihave Hs2 := (owns_halves (c : Thread nD τ) r3bM fullShare (sent A B 11 c)).1 $$ Hd8
  icases Hs2 with ⟨Hs, Hrb⟩
  iapply (step_send A B K 11 c _ 11 rfl (dev14_eq c) rfl rfl rfl rfl) $$ [Hp11 Hs Hl11 HO]
  · isplitr; · iexact HR
    isplitl [Hp11]; · iexact Hp11
    isplitl [Hs]; · iexact Hs
    isplitl [Hl11]; · iexact Hl11
    iexact HO
  iintro ⟨Hf11, HO⟩
  iapply (step_load_all c r3bM _ fullShare.right _) $$ Hrb; iintro Hrb
  iapply (step_load c outM _ fullShare _) $$ Ho; iintro Ho
  iapply (step_store c outM _ _ _) $$ Ho; iintro Ho
  iapply (step_recv A B K 7 c 12 (by decide) rfl (credit_dst 7 c)) $$ [Hc7 HO]
  · isplitr; · iexact HR
    isplitr; · iexact HL
    isplitl [Hc7]; · iexact Hc7
    iexact HO
  iintro ⟨Hd7, Hz7, HO⟩
  iapply Hk
  isplitl [Ho]; · iexact Ho
  isplitl [Hf10]; · iexact Hf10
  isplitl [Hra]; · iexact Hra
  isplitl [Hz8]; · iexact Hz8
  isplitl [Hf11]; · iexact Hf11
  isplitl [Hrb]; · iexact Hrb
  isplitl [Hd7]; · iexact Hd7
  isplitl [Hz7]; · iexact Hz7
  iexact HO

/-- Copies 10, 9 and 11 arrive; the partners' blocks are stored in the result. -/
theorem run_part12 (c : Dev nD) (w0 w1 w2 w3 : BitVec 32) (f : Vec F S1024x1024 .f32) {α : Type} {Q : α → sProp 𝕄} {p : PUnit → Prog (TpuEff nD τ sig (Elt F) Λ₀ .tc) α} :
    iprop(records A B K ∗ levAts idx lvl ∗ own c outM (out6 A B c f) ∗ recvPay A B 7 c ∗ coming 10 c ∗ coming 9 c ∗ coming 11 c ∗ debt c (dueFrom 12 c))
      ⊢ iprop((((own c outM (result A B c f) ∗ own c r4aM (otherA A B c) ∗ zr 10 c ∗ own c r4bM (otherB A B c) ∗ zr 9 c ∗ zr 11 c ∗ debt c (dueFrom 12 c)) -∗ WP c (p ⟨⟩) Q))
        -∗ WP c (k0_part12 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c w0 w1 w2 w3 >>= p) Q) := by
  rw [k0_part12_eq_skeleton]; unfold k0_part12_skel
  simp only [semSignalWord, semWaitWord, Prog.lift, Prog.bind_op, Prog.bind_ret, Prog.pure_eq_ret, wp_deviceId]
  iintro ⟨#HR, #HL, Ho, Hd7, Hc10, Hc9, Hc11, HO⟩ Hk
  iapply (step_recv A B K 10 c 12 (by decide) rfl (credit_dst 10 c)) $$ [Hc10 HO]
  · isplitr; · iexact HR
    isplitr; · iexact HL
    isplitl [Hc10]; · iexact Hc10
    iexact HO
  iintro ⟨Hd10, Hz10, HO⟩
  ihave Hd7 := (Entails.of_eq (recvPay_7 A B c)) $$ Hd7
  ihave Hd10 := (Entails.of_eq (recvPay_10 A B c)) $$ Hd10
  ihave Hra := (join_halves c r4aM (k0_off3_inb c) (k0_off13_inb c) (halves_y c) fullShare _ _) $$ [Hd10 Hd7]
  · isplitl [Hd10]; · iexact Hd10
    iexact Hd7
  iapply (step_load_all c r4aM _ fullShare _) $$ Hra; iintro Hra
  iapply (step_load c outM _ fullShare _) $$ Ho; iintro Ho
  iapply (step_store c outM _ _ _) $$ Ho; iintro Ho
  iapply (step_recv A B K 9 c 12 (by decide) rfl (credit_dst 9 c)) $$ [Hc9 HO]
  · isplitr; · iexact HR
    isplitr; · iexact HL
    isplitl [Hc9]; · iexact Hc9
    iexact HO
  iintro ⟨Hd9, Hz9, HO⟩
  ihave Hd9 := (Entails.of_eq (recvPay_9 A B c)) $$ Hd9
  iapply (step_recv A B K 11 c 12 (by decide) rfl (credit_dst 11 c)) $$ [Hc11 HO]
  · isplitr; · iexact HR
    isplitr; · iexact HL
    isplitl [Hc11]; · iexact Hc11
    iexact HO
  iintro ⟨Hd11, Hz11, HO⟩
  ihave Hd11 := (Entails.of_eq (recvPay_11 A B c)) $$ Hd11
  ihave Hrb := (join_halves c r4bM (k0_off6_inb c) (k0_off16_inb c) (halves_x c) fullShare _ _) $$ [Hd11 Hd9]
  · isplitl [Hd11]; · iexact Hd11
    iexact Hd9
  iapply (step_load_all c r4bM _ fullShare _) $$ Hrb; iintro Hrb
  iapply (step_load c outM _ fullShare _) $$ Ho; iintro Ho
  iapply (step_store c outM _ _ _) $$ Ho; iintro Ho
  iapply Hk
  isplitl [Ho]; · iexact Ho
  isplitl [Hra]; · iexact Hra
  isplitl [Hz10]; · iexact Hz10
  isplitl [Hrb]; · iexact Hrb
  isplitl [Hz9]; · iexact Hz9
  isplitl [Hz11]; · iexact Hz11
  iexact HO

/-- The first seven copies have left. -/
theorem run_part13 (c : Dev nD) {α : Type} {Q : α → sProp 𝕄} {p : PUnit → Prog (TpuEff nD τ sig (Elt F) Λ₀ .tc) α} :
    iprop(records A B K ∗ flying 0 c ∗ flying 1 c ∗ flying 2 c ∗ flying 3 c ∗ flying 4 c ∗ flying 5 c ∗ flying 6 c ∗ debt c 0)
      ⊢ iprop((((sendPay A B 0 c ∗ zs 0 c ∗ sendPay A B 1 c ∗ zs 1 c ∗ sendPay A B 2 c ∗ zs 2 c ∗ sendPay A B 3 c ∗ zs 3 c ∗ sendPay A B 4 c ∗ zs 4 c ∗ sendPay A B 5 c ∗ zs 5 c ∗ sendPay A B 6 c ∗ zs 6 c ∗ debt c 0) -∗ WP c (p ⟨⟩) Q))
        -∗ WP c (k0_part13 dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 c >>= p) Q) := by
  rw [k0_part13_eq_skeleton]; unfold k0_part13_skel
  simp only [semSignalWord, semWaitWord, Prog.lift, Prog.bind_op, Prog.bind_ret, Prog.pure_eq_ret, wp_deviceId]
  iintro ⟨#HR, Hf0, Hf1, Hf2, Hf3, Hf4, Hf5, Hf6, HO⟩ Hk
  iapply (step_left A B K 0 c rfl (credit_src 0 c)) $$ [Hf0 HO]
  · isplitr; · iexact HR
    isplitl [Hf0]; · iexact Hf0
    iexact HO
  iintro ⟨Hb0, Hy0, HO⟩
  iapply (step_left A B K 1 c rfl (credit_src 1 c)) $$ [Hf1 HO]
  · isplitr; · iexact HR
    isplitl [Hf1]; · iexact Hf1
    iexact HO
  iintro ⟨Hb1, Hy1, HO⟩
  iapply (step_left A B K 2 c rfl (credit_src 2 c)) $$ [Hf2 HO]
  · isplitr; · iexact HR
    isplitl [Hf2]; · iexact Hf2
    iexact HO
  iintro ⟨Hb2, Hy2, HO⟩
  iapply (step_left A B K 3 c rfl (credit_src 3 c)) $$ [Hf3 HO]
  · isplitr; · iexact HR
    isplitl [Hf3]; · iexact Hf3
    iexact HO
  iintro ⟨Hb3, Hy3, HO⟩
  iapply (step_left A B K 4 c rfl (credit_src 4 c)) $$ [Hf4 HO]
  · isplitr; · iexact HR
    isplitl [Hf4]; · iexact Hf4
    iexact HO
  iintro ⟨Hb4, Hy4, HO⟩
  iapply (step_left A B K 5 c rfl (credit_src 5 c)) $$ [Hf5 HO]
  · isplitr; · iexact HR
    isplitl [Hf5]; · iexact Hf5
    iexact HO
  iintro ⟨Hb5, Hy5, HO⟩
  iapply (step_left A B K 6 c rfl (credit_src 6 c)) $$ [Hf6 HO]
  · isplitr; · iexact HR
    isplitl [Hf6]; · iexact Hf6
    iexact HO
  iintro ⟨Hb6, Hy6, HO⟩
  iapply Hk
  isplitl [Hb0]; · iexact Hb0
  isplitl [Hy0]; · iexact Hy0
  isplitl [Hb1]; · iexact Hb1
  isplitl [Hy1]; · iexact Hy1
  isplitl [Hb2]; · iexact Hb2
  isplitl [Hy2]; · iexact Hy2
  isplitl [Hb3]; · iexact Hb3
  isplitl [Hy3]; · iexact Hy3
  isplitl [Hb4]; · iexact Hb4
  isplitl [Hy4]; · iexact Hy4
  isplitl [Hb5]; · iexact Hb5
  isplitl [Hy5]; · iexact Hy5
  isplitl [Hb6]; · iexact Hb6
  isplitl [Hy6]; · iexact Hy6
  iexact HO

end Cert.Grid

end
-- ==== Proof.Body.lean ====
/-
The kernel's body as a whole: from the operands, the scratch buffers and the protocol's tokens to the result.
-/
module

public import proofs.«01_k».proof.Proof.Parts2

@[expose] public section

noncomputable section

namespace Cert.Grid

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A B : Dev nD → Vec F S1024x4096 .f32) (K : Dev nD × CellIx → ℕ)

/-- The fourteen scratch buffers of a device, whatever they hold. -/
def scratch (c : Dev nD) : sProp 𝕄 :=
  iprop(junk c s1aM ∗ junk c s1bM ∗ junk c c1aM ∗ junk c c1bM ∗ junk c s2aM ∗ junk c s2bM ∗ junk c c2aM ∗ junk c c2bM ∗ junk c s3aM ∗ junk c s3bM ∗ junk c r3aM ∗ junk c r3bM ∗ junk c r4aM ∗ junk c r4bM)
/-- The tokens of a device's copies, as sender and as receiver. -/
def tokens (c : Dev nD) : sProp 𝕄 :=
  iprop((pend 0 c ∗ pend 1 c ∗ pend 2 c ∗ pend 3 c ∗ pend 4 c ∗ pend 5 c ∗ pend 6 c ∗ pend 7 c ∗ pend 8 c ∗ pend 9 c ∗ pend 10 c ∗ pend 11 c)
    ∗ coming 0 c ∗ coming 1 c ∗ coming 2 c ∗ coming 3 c ∗ coming 4 c ∗ coming 5 c ∗ coming 6 c ∗ coming 7 c ∗ coming 8 c ∗ coming 9 c ∗ coming 10 c ∗ coming 11 c)
/-- Every counter of a device at zero for good. -/
def zeros (c : Dev nD) : sProp 𝕄 :=
  iprop(semVal (barCell c) 0 ∗ (zs 0 c ∗ zs 1 c ∗ zs 2 c ∗ zs 3 c ∗ zs 4 c ∗ zs 5 c ∗ zs 6 c ∗ zs 7 c ∗ zs 8 c ∗ zs 9 c ∗ zs 10 c ∗ zs 11 c)
    ∗ zr 0 c ∗ zr 1 c ∗ zr 2 c ∗ zr 3 c ∗ zr 4 c ∗ zr 5 c ∗ zr 6 c ∗ zr 7 c ∗ zr 8 c ∗ zr 9 c ∗ zr 10 c ∗ zr 11 c)

/-- The landing places a device hands its column partner, taken from its own buffers. -/
theorem fromX_intro (c : Dev nD) :
    iprop(land 0 c ∗ land 3 c ∗ land 4 c ∗ land 7 c ∗ land 8 c ∗ land 10 c) ⊢ (fromX (px c) : sProp 𝕄) := by
  unfold fromX; rw [px_px]
/-- The landing places a device hands its row partner, taken from its own buffers. -/
theorem fromY_intro (c : Dev nD) :
    iprop(land 1 c ∗ land 2 c ∗ land 5 c ∗ land 6 c ∗ land 9 c ∗ land 11 c) ⊢ (fromY (py c) : sProp 𝕄) := by
  unfold fromY; rw [py_py]

/-- A buffer of unknown contents, half by half. -/
theorem junk_split_y (c : Dev nD) (M : Memref sig .tc .vmem S512x512 .bf16) :
    (junk c M : sProp 𝕄) ⊢ iprop(junk c (half M (k0_off3 c) (k0_off3_inb c)) ∗ junk c (half M (k0_off13 c) (k0_off13_inb c))) := by
  iintro ⟨%X, H⟩
  ihave H' := (split_halves c M (k0_off3_inb c) (k0_off13_inb c) (halves_y c) fullShare X) $$ H
  icases H' with ⟨H1, H2⟩
  isplitl [H1]
  · iexists _; iexact H1
  · iexists _; iexact H2
/-- Two halves owned, as a buffer of unknown contents. -/
theorem junk_join_y (c : Dev nD) (M : Memref sig .tc .vmem S512x512 .bf16) (X Y : Vec F S256x512 .bf16) :
    iprop(own c (half M (k0_off3 c) (k0_off3_inb c)) X ∗ own c (half M (k0_off13 c) (k0_off13_inb c)) Y) ⊢ (junk c M : sProp 𝕄) := by
  iintro H
  ihave H' := (join_halves c M (k0_off3_inb c) (k0_off13_inb c) (halves_y c) fullShare X Y) $$ H
  iexists _; iexact H'

/-- A buffer of unknown contents, half by half. -/
theorem junk_split_x (c : Dev nD) (M : Memref sig .tc .vmem S512x512 .bf16) :
    (junk c M : sProp 𝕄) ⊢ iprop(junk c (half M (k0_off6 c) (k0_off6_inb c)) ∗ junk c (half M (k0_off16 c) (k0_off16_inb c))) := by
  iintro ⟨%X, H⟩
  ihave H' := (split_halves c M (k0_off6_inb c) (k0_off16_inb c) (halves_x c) fullShare X) $$ H
  icases H' with ⟨H1, H2⟩
  isplitl [H1]
  · iexists _; iexact H1
  · iexists _; iexact H2
/-- Two halves owned, as a buffer of unknown contents. -/
theorem junk_join_x (c : Dev nD) (M : Memref sig .tc .vmem S512x512 .bf16) (X Y : Vec F S256x512 .bf16) :
    iprop(own c (half M (k0_off6 c) (k0_off6_inb c)) X ∗ own c (half M (k0_off16 c) (k0_off16_inb c)) Y) ⊢ (junk c M : sProp 𝕄) := by
  iintro H
  ihave H' := (join_halves c M (k0_off6_inb c) (k0_off16_inb c) (halves_x c) fullShare X Y) $$ H
  iexists _; iexact H'

/-- The whole body. -/
theorem run_body (c : Dev nD) (f : Vec F S1024x1024 .f32) {Q : PUnit → sProp 𝕄} :
    iprop(records A B K ∗ levAts idx lvl ∗ own c dyM (A c) ∗ own c wM (B c) ∗ own c outM f ∗ debt c (due c) ∗ atBar c ∗ scratch c ∗ tokens c)
      ⊢ iprop(((own c dyM (A c) ∗ own c wM (B c) ∗ own c outM (result A B c f) ∗ scratch c ∗ zeros c ∗ debt c 0) -∗ Q ⟨⟩)
        -∗ WP c (cc0_body dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15) Q) := by
  rw [cc0_body_eq_skeleton]; unfold cc0_body_skel scratch tokens
  iintro ⟨#HR, #HL, Hdy, Hw, Ho, HO, Hbar, ⟨Hs1a, Hs1b, Hc1a, Hc1b, Hs2a, Hs2b, Hc2a, Hc2b, Hs3a, Hs3b, Hr3a, Hr3b, Hr4a, Hr4b⟩, ⟨⟨Hp0, Hp1, Hp2, Hp3, Hp4, Hp5, Hp6, Hp7, Hp8, Hp9, Hp10, Hp11⟩, Hc0, Hc1, Hc2, Hc3, Hc4, Hc5, Hc6, Hc7, Hc8, Hc9, Hc10, Hc11⟩⟩ Hk
  ihave Ht := (junk_split_y c s1aM) $$ Hs1a
  icases Ht with ⟨Hs0, Hs4⟩
  ihave Ht := (junk_split_x c s1bM) $$ Hs1b
  icases Ht with ⟨Hs1, Hs5⟩
  ihave Ht := (junk_split_y c c1aM) $$ Hc1a
  icases Ht with ⟨Hm0, Hm4⟩
  ihave Ht := (junk_split_x c c1bM) $$ Hc1b
  icases Ht with ⟨Hm1, Hm5⟩
  ihave Ht := (junk_split_y c r4aM) $$ Hr4a
  icases Ht with ⟨Hm10, Hm7⟩
  ihave Ht := (junk_split_x c r4bM) $$ Hr4b
  icases Ht with ⟨Hm11, Hm9⟩
  ihave HX := (fromX_intro c) $$ [Hm0 Hc2b Hm4 Hm7 Hr3b Hm10]
  · unfold land
    isplitl [Hm0]; · iexact Hm0
    isplitl [Hc2b]; · iexact Hc2b
    isplitl [Hm4]; · iexact Hm4
    isplitl [Hm7]; · iexact Hm7
    isplitl [Hr3b]; · iexact Hr3b
    iexact Hm10
  ihave HY := (fromY_intro c) $$ [Hm1 Hc2a Hm5 Hr3a Hm9 Hm11]
  · unfold land
    isplitl [Hm1]; · iexact Hm1
    isplitl [Hc2a]; · iexact Hc2a
    isplitl [Hm5]; · iexact Hm5
    isplitl [Hr3a]; · iexact Hr3a
    isplitl [Hm9]; · iexact Hm9
    iexact Hm11
  iapply (run_part1 c)
  iintro %v2 %v19 %v36 %v38 %v39
  dsimp only
  iapply (run_part2 A B K c _ _ _ _ _) $$ [Hbar HX HY HO]
  · isplitr; · iexact HR
    isplitr; · iexact HL
    isplitl [Hbar]; · iexact Hbar
    isplitl [HX]; · iexact HX
    isplitl [HY]; · iexact HY
    iexact HO
  iintro %r ⟨HX, HY, Hz, HO⟩
  obtain ⟨v47, v48, v49, v57, v61, v64, v68, v70, k₁⟩ := r
  dsimp only
  unfold fromX fromY
  icases HX with ⟨Hl0, Hl3, Hl4, Hl7, Hl8, Hl10⟩
  icases HY with ⟨Hl1, Hl2, Hl5, Hl6, Hl9, Hl11⟩
  iapply (run_part3 A B K c _ _ _ _ _) $$ [Hdy Hw Hs0 Hp0 Hl0 HO]
  · isplitr; · iexact HR
    isplitl [Hdy]; · iexact Hdy
    isplitl [Hw]; · iexact Hw
    isplitl [Hs0]; · iexact Hs0
    isplitl [Hp0]; · iexact Hp0
    isplitl [Hl0]; · iexact Hl0
    iexact HO
  iintro ⟨Hdy, Hw, Hf0, HO⟩
  iapply (run_part4 A B K c _ _ _ _) $$ [Hdy Hw Hs1 Hp1 Hl1 HO]
  · isplitr; · iexact HR
    isplitl [Hdy]; · iexact Hdy
    isplitl [Hw]; · iexact Hw
    isplitl [Hs1]; · iexact Hs1
    isplitl [Hp1]; · iexact Hp1
    isplitl [Hl1]; · iexact Hl1
    iexact HO
  iintro ⟨Hdy, Hw, Hf1, HO⟩
  iapply (run_part5 A B K c _ _ _ _ _ _) $$ [Hdy Hw Ho Hs2a Hp2 Hl2 Hc0 Hc1 HO]
  · isplitr; · iexact HR
    isplitr; · iexact HL
    isplitl [Hdy]; · iexact Hdy
    isplitl [Hw]; · iexact Hw
    isplitl [Ho]; · iexact Ho
    isplitl [Hs2a]; · iexact Hs2a
    isplitl [Hp2]; · iexact Hp2
    isplitl [Hl2]; · iexact Hl2
    isplitl [Hc0]; · iexact Hc0
    isplitl [Hc1]; · iexact Hc1
    iexact HO
  iintro ⟨Hdy, Hw, Ho, Hf2, Hd0, Hz0, Hd1, Hz1, HO⟩
  dsimp only
  iapply (run_part6 A B K c _ _ _ _ _ _) $$ [Hdy Hw Ho Hs2b Hs4 Hp3 Hl3 Hd1 HO]
  · isplitr; · iexact HR
    isplitl [Hdy]; · iexact Hdy
    isplitl [Hw]; · iexact Hw
    isplitl [Ho]; · iexact Ho
    isplitl [Hs2b]; · iexact Hs2b
    isplitl [Hs4]; · iexact Hs4
    isplitl [Hp3]; · iexact Hp3
    isplitl [Hl3]; · iexact Hl3
    isplitl [Hd1]; · iexact Hd1
    iexact HO
  iintro ⟨Hdy, Hw, Ho, Hs4, Hf3, Hd1, HO⟩
  iapply (run_part7 A B K c _ _ _ _ _) $$ [Hdy Hw Hs4 Hs5 Hp4 Hl4 Hp5 Hl5 HO]
  · isplitr; · iexact HR
    isplitl [Hdy]; · iexact Hdy
    isplitl [Hw]; · iexact Hw
    isplitl [Hs4]; · iexact Hs4
    isplitl [Hs5]; · iexact Hs5
    isplitl [Hp4]; · iexact Hp4
    isplitl [Hl4]; · iexact Hl4
    isplitl [Hp5]; · iexact Hp5
    isplitl [Hl5]; · iexact Hl5
    iexact HO
  iintro ⟨Hdy, Hw, Hf4, Hf5, HO⟩
  iapply (run_part8 A B K c _ _ _ _ _) $$ [Hdy Hw Ho Hs3a Hc4 Hc2 HO]
  · isplitr; · iexact HR
    isplitr; · iexact HL
    isplitl [Hdy]; · iexact Hdy
    isplitl [Hw]; · iexact Hw
    isplitl [Ho]; · iexact Ho
    isplitl [Hs3a]; · iexact Hs3a
    isplitl [Hc4]; · iexact Hc4
    isplitl [Hc2]; · iexact Hc2
    iexact HO
  iintro ⟨Hdy, Hw, Ho, Hs3a, Hd4, Hz4, Hd2, Hz2, HO⟩
  iapply (run_part9 A B K c _ _ _ _ _) $$ [Hdy Hw Hs3a Hp6 Hl6 Hp7 Hl7 Hc5 Hc3 HO]
  · isplitr; · iexact HR
    isplitr; · iexact HL
    isplitl [Hdy]; · iexact Hdy
    isplitl [Hw]; · iexact Hw
    isplitl [Hs3a]; · iexact Hs3a
    isplitl [Hp6]; · iexact Hp6
    isplitl [Hl6]; · iexact Hl6
    isplitl [Hp7]; · iexact Hp7
    isplitl [Hl7]; · iexact Hl7
    isplitl [Hc5]; · iexact Hc5
    isplitl [Hc3]; · iexact Hc3
    iexact HO
  iintro ⟨Hdy, Hw, Hf6, Hf7, Hd5, Hz5, Hd3, Hz3, HO⟩
  dsimp only
  iapply (run_part10 A B K c _ _ _ _ _ _) $$ [Ho Hs3b Hd3 Hp8 Hl8 Hp9 Hl9 Hc6 HO]
  · isplitr; · iexact HR
    isplitr; · iexact HL
    isplitl [Ho]; · iexact Ho
    isplitl [Hs3b]; · iexact Hs3b
    isplitl [Hd3]; · iexact Hd3
    isplitl [Hp8]; · iexact Hp8
    isplitl [Hl8]; · iexact Hl8
    isplitl [Hp9]; · iexact Hp9
    isplitl [Hl9]; · iexact Hl9
    isplitl [Hc6]; · iexact Hc6
    iexact HO
  iintro ⟨Ho, Hd3, Hf8, Hf9, Hd6, Hz6, HO⟩
  iapply (run_part11 A B K c _ _ _ _ _ _) $$ [Ho Hd6 Hp10 Hl10 Hc8 Hp11 Hl11 Hc7 HO]
  · isplitr; · iexact HR
    isplitr; · iexact HL
    isplitl [Ho]; · iexact Ho
    isplitl [Hd6]; · iexact Hd6
    isplitl [Hp10]; · iexact Hp10
    isplitl [Hl10]; · iexact Hl10
    isplitl [Hc8]; · iexact Hc8
    isplitl [Hp11]; · iexact Hp11
    isplitl [Hl11]; · iexact Hl11
    isplitl [Hc7]; · iexact Hc7
    iexact HO
  iintro ⟨Ho, Hf10, Hra, Hz8, Hf11, Hrb, Hd7, Hz7, HO⟩
  iapply (run_part12 A B K c _ _ _ _ _) $$ [Ho Hd7 Hc10 Hc9 Hc11 HO]
  · isplitr; · iexact HR
    isplitr; · iexact HL
    isplitl [Ho]; · iexact Ho
    isplitl [Hd7]; · iexact Hd7
    isplitl [Hc10]; · iexact Hc10
    isplitl [Hc9]; · iexact Hc9
    isplitl [Hc11]; · iexact Hc11
    iexact HO
  iintro ⟨Ho, Hr4a, Hz10, Hr4b, Hz9, Hz11, HO⟩
  rw [dueFrom_end]
  iapply (run_part13 A B K c) $$ [Hf0 Hf1 Hf2 Hf3 Hf4 Hf5 Hf6 HO]
  · isplitr; · iexact HR
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    iexact HO
  iintro ⟨Hb0, Hy0, Hb1, Hy1, Hb2, Hy2, Hb3, Hy3, Hb4, Hy4, Hb5, Hy5, Hb6, Hy6, HO⟩
  simp only [Prog.lift, Prog.bind_op, Prog.bind_ret, Prog.pure_eq_ret]
  iapply (step_left A B K 7 c rfl (credit_src 7 c)) $$ [Hf7 HO]
  · isplitr; · iexact HR
    isplitl [Hf7]; · iexact Hf7
    iexact HO
  iintro ⟨Hb7, Hy7, HO⟩
  iapply (step_left A B K 8 c rfl (credit_src 8 c)) $$ [Hf8 HO]
  · isplitr; · iexact HR
    isplitl [Hf8]; · iexact Hf8
    iexact HO
  iintro ⟨Hb8, Hy8, HO⟩
  iapply (step_left A B K 9 c rfl (credit_src 9 c)) $$ [Hf9 HO]
  · isplitr; · iexact HR
    isplitl [Hf9]; · iexact Hf9
    iexact HO
  iintro ⟨Hb9, Hy9, HO⟩
  iapply (step_left A B K 10 c rfl (credit_src 10 c)) $$ [Hf10 HO]
  · isplitr; · iexact HR
    isplitl [Hf10]; · iexact Hf10
    iexact HO
  iintro ⟨Hb10, Hy10, HO⟩
  iapply (step_left A B K 11 c rfl (credit_src 11 c)) $$ [Hf11 HO]
  · isplitr; · iexact HR
    isplitl [Hf11]; · iexact Hf11
    iexact HO
  iintro ⟨Hb11, Hy11, HO⟩
  unfold WP
  rw [wp_ret]
  imodintro
  iapply Hk
  isplitl [Hdy]; · iexact Hdy
  isplitl [Hw]; · iexact Hw
  isplitl [Ho]; · iexact Ho
  unfold sendPay
  isplitl [Hb0 Hb4 Hb1 Hb5 Hd0 Hd4 Hd1 Hd5 Hb2 Hb3 Hd2 Hd3 Hb6 Hb7 Hb8 Hb9 Hb10 Hra Hb11 Hrb Hr4a Hr4b]
  · isplitl [Hb0 Hb4]
    · iapply (junk_join_y c s1aM _ _)
      isplitl [Hb0]; · iexact Hb0
      iexact Hb4
    isplitl [Hb1 Hb5]
    · iapply (junk_join_x c s1bM _ _)
      isplitl [Hb1]; · iexact Hb1
      iexact Hb5
    isplitl [Hd0 Hd4]
    · ihave Hd0 := (Entails.of_eq (recvPay_0 A B c)) $$ Hd0
      ihave Hd4 := (Entails.of_eq (recvPay_4 A B c)) $$ Hd4
      iapply (junk_join_y c c1aM _ _)
      isplitl [Hd0]; · iexact Hd0
      iexact Hd4
    isplitl [Hd1 Hd5]
    · ihave Hd1 := (Entails.of_eq (recvPay_1 A B c)) $$ Hd1
      ihave Hd5 := (Entails.of_eq (recvPay_5 A B c)) $$ Hd5
      iapply (junk_join_x c c1bM _ _)
      isplitl [Hd1]; · iexact Hd1
      iexact Hd5
    isplitl [Hb2]
    · iexists _; iexact Hb2
    isplitl [Hb3]
    · iexists _; iexact Hb3
    isplitl [Hd2]
    · ihave Hd2 := (Entails.of_eq (recvPay_2 A B c)) $$ Hd2
      iexists _; iexact Hd2
    isplitl [Hd3]
    · ihave Hd3 := (Entails.of_eq (recvPay_3 A B c)) $$ Hd3
      iexists _; iexact Hd3
    isplitl [Hb6 Hb7]
    · iexists (partA A B c); iapply (owns_halves (c : Thread nD τ) s3aM fullShare (partA A B c)).2
      isplitl [Hb6]; · iexact Hb6
      iexact Hb7
    isplitl [Hb8 Hb9]
    · iexists (partB A B c); iapply (owns_halves (c : Thread nD τ) s3bM fullShare (partB A B c)).2
      isplitl [Hb8]; · iexact Hb8
      iexact Hb9
    isplitl [Hb10 Hra]
    · iexists (sent A B 10 c); iapply (owns_halves (c : Thread nD τ) r3aM fullShare (sent A B 10 c)).2
      isplitl [Hb10]; · iexact Hb10
      iexact Hra
    isplitl [Hb11 Hrb]
    · iexists (sent A B 11 c); iapply (owns_halves (c : Thread nD τ) r3bM fullShare (sent A B 11 c)).2
      isplitl [Hb11]; · iexact Hb11
      iexact Hrb
    isplitl [Hr4a]
    · iexists _; iexact Hr4a
    iexists _; iexact Hr4b
  isplitl [Hz Hy0 Hy1 Hy2 Hy3 Hy4 Hy5 Hy6 Hy7 Hy8 Hy9 Hy10 Hy11 Hz0 Hz1 Hz2 Hz3 Hz4 Hz5 Hz6 Hz7 Hz8 Hz9 Hz10 Hz11]
  · unfold zeros
    isplitl [Hz]; · iexact Hz
    isplitl [Hy0 Hy1 Hy2 Hy3 Hy4 Hy5 Hy6 Hy7 Hy8 Hy9 Hy10 Hy11]
    · isplitl [Hy0]; · iexact Hy0
      isplitl [Hy1]; · iexact Hy1
      isplitl [Hy2]; · iexact Hy2
      isplitl [Hy3]; · iexact Hy3
      isplitl [Hy4]; · iexact Hy4
      isplitl [Hy5]; · iexact Hy5
      isplitl [Hy6]; · iexact Hy6
      isplitl [Hy7]; · iexact Hy7
      isplitl [Hy8]; · iexact Hy8
      isplitl [Hy9]; · iexact Hy9
      isplitl [Hy10]; · iexact Hy10
      iexact Hy11
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    iexact Hz11
  iexact HO

end Cert.Grid

end
-- ==== Proof.Cover.lean ====
/-
The blocks the kernel stores cover its result: what the result holds does not depend on what the buffer held before.
-/
module

public import proofs.«01_k».proof.Proof.Blocks

@[expose] public section

noncomputable section

namespace Cert.Grid

open Cert.KernelIdeal Cert.KernelIdeal.Gen
open Idealize.ShloMosaic Idealize.ShloMosaic.TcCoe

variable {F : FTy → Type} [FloatOps F]

theorem xb_lt (c : Dev nD) : xb c < 2 := by revert c; decide
theorem yb_lt (c : Dev nD) : yb c < 2 := by revert c; decide

/-- Every place of the result is in one of the six blocks last stored. -/
theorem cover (c : Dev nD) (j : S1024x1024.Idx) :
    j ∈ (or512 (k0_off22 c) (k0_off22_inb c)).set ∨ j ∈ (or512 (k0_off21 c) (k0_off21_inb c)).set
      ∨ j ∈ (or256 (k0_off10 c) (k0_off10_inb c)).set ∨ j ∈ (or256 (k0_off8 c) (k0_off8_inb c)).set
      ∨ j ∈ (or256 (k0_off20 c) (k0_off20_inb c)).set ∨ j ∈ (or256 (k0_off18 c) (k0_off18_inb c)).set := by
  simp only [or512, or256, Rect.mem_set_unit, off22_eq, off21_eq, off10_eq, off8_eq, off20_eq, off18_eq]
  have h0 : (j 0).val < 1024 := (j 0).isLt
  have h1 : (j 1).val < 1024 := (j 1).isLt
  have hx := xb_lt c
  have hy := yb_lt c
  generalize xb c = x at *
  generalize yb c = y at *
  generalize hj0 : (j 0).val = a at *
  generalize hj1 : (j 1).val = b at *
  simp only [Fin.forall_fin_two, hj0, hj1]
  simp
  omega

/-- A store over two buffers that agree outside its block leaves them agreeing. -/
theorem overlay_congr {s : Shape} {e : EltTy} (r : Rect s) {X Y : s.Idx → Elt F e} (G : r.shape.Idx → Elt F e) {j : s.Idx}
    (h : j ∉ r.set → X j = Y j) : r.overlay X G j = r.overlay Y G j := by
  by_cases hj : j ∈ r.set
  · obtain ⟨i, rfl⟩ := r.exists_idx_of_mem hj
    exact (r.overlay_emb X G i).trans (r.overlay_emb Y G i).symm
  · rw [Rect.overlay_of_not_mem _ _ _ hj, Rect.overlay_of_not_mem _ _ _ hj, h hj]

/-- A store of a block of `T` over a buffer that is `T` outside the block leaves `T`. -/
theorem overlay_eq {s : Shape} {e : EltTy} (r : Rect s) {X T : s.Idx → Elt F e} {G : r.shape.Idx → Elt F e} {j : s.Idx}
    (hG : ∀ i, G i = T (r.emb i)) (h : j ∉ r.set → X j = T j) : r.overlay X G j = T j := by
  by_cases hj : j ∈ r.set
  · obtain ⟨i, rfl⟩ := r.exists_idx_of_mem hj
    exact (r.overlay_emb X G i).trans (hG i)
  · rw [Rect.overlay_of_not_mem _ _ _ hj, h hj]

variable (A B : Dev nD → Vec F S1024x4096 .f32)

/-- The result does not depend on what the buffer held. -/
theorem result_base (c : Dev nD) (f g : Vec F S1024x1024 .f32) : result A B c f = result A B c g := by
  funext j
  unfold result out7 out6 out5 out4 out3
  refine overlay_congr _ _ fun h22 => overlay_congr _ _ fun h21 => overlay_congr _ _ fun h10 => overlay_congr _ _ fun h8 =>
    overlay_congr _ _ fun h20 => overlay_congr _ _ fun h18 => ?_
  rcases cover c j with h | h | h | h | h | h
  exacts [absurd h h22, absurd h h21, absurd h h10, absurd h h8, absurd h h20, absurd h h18]

/-- The result is `T` when each of the six blocks last stored is `T`'s. -/
theorem result_eq (c : Dev nD) (f T : Vec F S1024x1024 .f32)
    (h22 : ∀ i, k0_pay20 (otherB A B c) i = T ((or512 (k0_off22 c) (k0_off22_inb c)).emb i))
    (h21 : ∀ i, k0_pay19 (otherA A B c) i = T ((or512 (k0_off21 c) (k0_off21_inb c)).emb i))
    (h10 : ∀ i, k0_pay18 (sent A B 8 (px c)) i = T ((or256 (k0_off10 c) (k0_off10_inb c)).emb i))
    (h8 : ∀ i, k0_pay17 (sent A B 6 (py c)) i = T ((or256 (k0_off8 c) (k0_off8_inb c)).emb i))
    (h20 : ∀ i, sumB A B c i = T ((or256 (k0_off20 c) (k0_off20_inb c)).emb i))
    (h18 : ∀ i, sumA A B c i = T ((or256 (k0_off18 c) (k0_off18_inb c)).emb i)) : result A B c f = T := by
  funext j
  unfold result out7 out6 out5 out4 out3
  refine overlay_eq _ h22 fun n22 => overlay_eq _ h21 fun n21 => overlay_eq _ h10 fun n10 => overlay_eq _ h8 fun n8 =>
    overlay_eq _ h20 fun n20 => overlay_eq _ h18 fun n18 => ?_
  rcases cover c j with h | h | h | h | h | h
  exacts [absurd h n22, absurd h n21, absurd h n10, absurd h n8, absurd h n20, absurd h n18]

end Cert.Grid

end
-- ==== Proof.Deal.lean ====
/-
Dealing the protocol's ghost state to the devices: every cell gets its invariant, and every token goes to the device that pays with
it. The debts at the start match the credit every device waits with.
-/
module

public import proofs.«01_k».proof.Proof.Parts1
public import proofs.«01_k».proof.Proof.Gen.KernelIdeal.Launch

@[expose] public section

noncomputable section

namespace Cert.Grid

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A B : Dev nD → Vec F S1024x4096 .f32) (K : Dev nD × CellIx → ℕ)

/-! ## The cells and the tokens of the launch -/

/-- A device's cells are on different semaphores. -/
theorem csem_injective : ∀ i j : CellIx, csem i = csem j → i = j := by decide +kernel

/-- The cells of all devices are different. -/
theorem kcell_injective : Function.Injective kcell := fun ⟨c, i⟩ ⟨d, j⟩ h => by
  have hc : c = d := congrArg (fun g : GSem nD τ sig => g.1.1) h
  rw [hc, csem_injective i j (congrArg Prod.snd h)]

/-- The payments into one device's cells: two into the barrier cell, one into each copy's cells. -/
abbrev TokIx : Type := Bool ⊕ CopyIx
abbrev tokAt (ct : Dev nD × TokIx) : GSem nD τ sig × ℕ × Bool :=
  Sum.elim (fun d => (barCell ct.1, 0, d)) (fun i => (kcell (ct.1, .inr i), 0, false)) ct.2

/-- Which semaphore of the device a payment goes into, and which of its payments it is. -/
def tokKey : TokIx → SemLoc sig × Bool := Sum.elim (fun d => (.reg barS, d)) (fun i => (csem (.inr i), false))
theorem tokKey_injective : ∀ t u : TokIx, tokKey t = tokKey u → t = u := by decide +kernel
theorem tokAt_dev (ct : Dev nD × TokIx) : (tokAt ct).1.1.1 = ct.1 := by obtain ⟨c, d | i⟩ := ct <;> rfl
theorem tokAt_key (ct : Dev nD × TokIx) : ((tokAt ct).1.2, (tokAt ct).2.2) = tokKey ct.2 := by obtain ⟨c, d | i⟩ := ct <;> rfl

/-- All payments are different. -/
theorem tokAt_injective : Function.Injective tokAt := fun ct du h => by
  refine Prod.ext ?_ (tokKey_injective _ _ ?_)
  · rw [← tokAt_dev ct, ← tokAt_dev du, h]
  · rw [← tokAt_key ct, ← tokAt_key du, h]

def allCells : Finset (GSem nD τ sig) := Finset.univ.map ⟨kcell, kcell_injective⟩
def allToks : Finset (GSem nD τ sig × ℕ × Bool) := Finset.univ.map ⟨tokAt, tokAt_injective⟩

/-- The ghost state at the launch: the pipeline's and the protocol's. -/
def ghost₀ : UU := (initOf (Pipeline.cells cfgs cellOf_inj) (Pipeline.launchToks cfgs cellOf_inj), initOf allCells allToks)

/-! ## What a device gets first -/

/-- The start of every cell of device `c`, its positions, and the tokens of the payments into its cells. -/
def dealt (c : Dev nD) : sProp 𝕄 :=
  iprop((bigSep Finset.univ fun i : CellIx => roundState ER (plan A B) (kcell (c, i)) 0)
    ∗ (bigSep Finset.univ fun i : CellIx => reached ER (kcell (c, i)) 0)
    ∗ (bigSep Finset.univ fun i : CellIx => atPos ER (kcell (c, i)) 0 ∅ 0)
    ∗ bigSep Finset.univ fun t : TokIx => dutyTok ER (tokAt (c, t)).1 (tokAt (c, t)).2.1 (tokAt (c, t)).2.2)

/-- The launch's ghost state makes every device's first holdings. -/
theorem deal : BI.own (ER (initOf allCells allToks)) ⊢ (|==> bigSep Finset.univ (dealt A B) : sProp 𝕄) := by
  have hc (Φ : GSem nD τ sig → sProp 𝕄) :
      bigSep allCells Φ = bigSep Finset.univ fun c : Dev nD => bigSep Finset.univ fun i : CellIx => Φ (kcell (c, i)) := by
    unfold allCells; rw [bigSep_map, bigSep_univ_prod]; rfl
  have ht : bigSep allToks (fun x => (dutyTok ER x.1 x.2.1 x.2.2 : sProp 𝕄))
      = bigSep Finset.univ fun c : Dev nD => bigSep Finset.univ fun t : TokIx => dutyTok ER (tokAt (c, t)).1 (tokAt (c, t)).2.1 (tokAt (c, t)).2.2 := by
    unfold allToks; rw [bigSep_map, bigSep_univ_prod]; rfl
  have hd : (bigSep Finset.univ (dealt A B) : sProp 𝕄) = iprop(
      bigSep allCells (fun g => roundState ER (plan A B) g 0) ∗ bigSep allCells (fun g => reached ER g 0)
      ∗ bigSep allCells (fun g => atPos ER g 0 ∅ 0) ∗ bigSep allToks (fun x => dutyTok ER x.1 x.2.1 x.2.2)) := by
    unfold dealt; simp only [bigSep_sep']; rw [hc, hc, hc, ht]
  rw [hd]
  exact Rounds.fund ER (plan A B) allCells allToks

/-! ## What a device has for the run -/

/-- What stays with device `c`: its positions, and the tokens of the payments it makes. -/
def linear (c : Dev nD) : sProp 𝕄 :=
  iprop(atPos ER (barCell c) 0 ∅ 0 ∗ (bigSep Finset.univ fun k : Fin 12 => atPos ER (sendCell k c) 0 ∅ 0)
    ∗ (bigSep Finset.univ fun k : Fin 12 => atPos ER (recvCell k c) 0 ∅ 0)
    ∗ dutyTok ER (barCell (px c)) 0 true ∗ dutyTok ER (barCell (py c)) 0 false
    ∗ (bigSep Finset.univ fun k : Fin 12 => dutyTok ER (sendCell k c) 0 false)
    ∗ bigSep Finset.univ fun k : Fin 12 => dutyTok ER (recvCell k (peer k c)) 0 false)

/-- The protocol's state on device `c`: at some names, every cell's invariant, and what is the device's alone. -/
def ready (c : Dev nD) : sProp 𝕄 := iprop(∃ K, records A B K ∗ linear c)

theorem bigSep_bool (Φ : Bool → sProp 𝕄) : bigSep Finset.univ Φ = iprop(Φ true ∗ Φ false) :=
  bigSep_univ_eq_bigSepL [true, false] (by decide) (by decide) Φ
theorem bigSep_unit (Φ : Unit → sProp 𝕄) : bigSep Finset.univ Φ = Φ () :=
  bigSep_univ_eq_bigSepL [()] (by decide) (by decide) Φ

/-- A device's cells: the barrier cell, the send cells, the receive cells. -/
theorem bigSep_cells (Φ : CellIx → sProp 𝕄) : bigSep Finset.univ Φ
    = iprop(Φ (.inl ()) ∗ (bigSep Finset.univ fun k : Fin 12 => Φ (.inr (.inl k))) ∗ bigSep Finset.univ fun k : Fin 12 => Φ (.inr (.inr k))) := by
  rw [bigSep_univ_sum, bigSep_univ_sum, bigSep_unit]; rfl
theorem bigSep_toks (Φ : TokIx → sProp 𝕄) : bigSep Finset.univ Φ
    = iprop((Φ (.inl true) ∗ Φ (.inl false)) ∗ (bigSep Finset.univ fun k : Fin 12 => Φ (.inr (.inl k))) ∗ bigSep Finset.univ fun k : Fin 12 => Φ (.inr (.inr k))) := by
  rw [bigSep_univ_sum, bigSep_univ_sum, bigSep_bool]; rfl

/-- The positions, and the tokens passed to the devices that pay with them, are what the devices keep. -/
theorem linear_intro :
    iprop((bigSep Finset.univ fun c : Dev nD => bigSep Finset.univ fun i : CellIx => atPos ER (kcell (c, i)) 0 ∅ 0)
      ∗ bigSep Finset.univ fun c : Dev nD => bigSep Finset.univ fun t : TokIx => dutyTok ER (tokAt (c, t)).1 (tokAt (c, t)).2.1 (tokAt (c, t)).2.2)
      ⊢ (bigSep Finset.univ linear : sProp 𝕄) := by
  have hr : (bigSep Finset.univ fun c : Dev nD => bigSep Finset.univ fun k : Fin 12 => (dutyTok ER (recvCell k c) 0 false : sProp 𝕄))
      = bigSep Finset.univ fun c : Dev nD => bigSep Finset.univ fun k : Fin 12 => dutyTok ER (recvCell k (peer k c)) 0 false := by
    rw [Pipeline.bigSep_univ_comm, Pipeline.bigSep_univ_comm (fun (c : Dev nD) (k : Fin 12) => (dutyTok ER (recvCell k (peer k c)) 0 false : sProp 𝕄))]
    exact bigSep_congr fun k _ => bigSep_univ_equiv (peerEquiv k) _
  have hx : (bigSep Finset.univ fun c : Dev nD => (dutyTok ER (barCell c) 0 true : sProp 𝕄))
      = bigSep Finset.univ fun c : Dev nD => dutyTok ER (barCell (px c)) 0 true := bigSep_univ_equiv flipX _
  have hy : (bigSep Finset.univ fun c : Dev nD => (dutyTok ER (barCell c) 0 false : sProp 𝕄))
      = bigSep Finset.univ fun c : Dev nD => dutyTok ER (barCell (py c)) 0 false := bigSep_univ_equiv flipY _
  unfold linear
  simp only [bigSep_cells, bigSep_toks, bigSep_sep']
  rw [← hx, ← hy, ← hr]
  iintro ⟨⟨H1, H2, H3⟩, ⟨H4, H5⟩, H6, H7⟩
  isplitl [H1]; · iexact H1
  isplitl [H2]; · iexact H2
  isplitl [H3]; · iexact H3
  isplitl [H4]; · iexact H4
  isplitl [H5]; · iexact H5
  isplitl [H6]; · iexact H6
  iexact H7

/-- What everyone may use, handed to each of a family. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- A device's counters: the copies' and the barrier's. -/
theorem counters (c : Dev nD) :
    iprop(Pipeline.ownSems0 (Ix := Unit) (Name := ℕ) (U := UU) (Lvl := ℕ) (Val := Elt F) (τ := τ) osem c ∗ unscopedSems0 c)
      = (bigSep Finset.univ fun i : CellIx => semVal (kcell (c, i)) 0 : sProp 𝕄) := by
  have hb : (unscopedSems0 c : sProp 𝕄) = semVal (barCell c) 0 := by
    unfold unscopedSems0; rw [bigSep_eq_bigSepL_of_eq [SemLoc.reg barS] (by decide) (by decide)]; rfl
  rw [hb, bigSep_univ_sum, bigSep_unit]
  exact BI.Entails.antisymm Idealize.SL.BI.sep_comm Idealize.SL.BI.sep_comm

/-- The counters and the starts of the cells become the cells' invariants. -/
theorem open_cells (c : Dev nD) :
    iprop(Pipeline.ownSems0 (Ix := Unit) (Name := ℕ) (U := UU) (Lvl := ℕ) (Val := Elt F) (τ := τ) osem c ∗ unscopedSems0 c ∗ dealt A B c)
      ⊢ |={Set.univ}=> iprop((bigSep Finset.univ fun i : CellIx => iprop(∃ κ : ℕ, cellInv ER (plan A B) κ (kcell (c, i))))
          ∗ (bigSep Finset.univ fun i : CellIx => reached ER (kcell (c, i)) 0)
          ∗ (bigSep Finset.univ fun i : CellIx => atPos ER (kcell (c, i)) 0 ∅ 0)
          ∗ bigSep Finset.univ fun t : TokIx => dutyTok ER (tokAt (c, t)).1 (tokAt (c, t)).2.1 (tokAt (c, t)).2.2) := by
  have hi : iprop((bigSep Finset.univ fun i : CellIx => semVal (kcell (c, i)) 0) ∗ bigSep Finset.univ fun i : CellIx => roundState ER (plan A B) (kcell (c, i)) 0)
      ⊢ (|={Set.univ}=> bigSep Finset.univ fun i : CellIx => iprop(∃ κ : ℕ, cellInv ER (plan A B) κ (kcell (c, i))) : sProp 𝕄) := by
    rw [← bigSep_sep']
    exact (bigSep_mono fun i _ => (Rounds.body_intro ER (plan A B) (kcell (c, i))).trans inv_alloc).trans (bigSep_fupd _ _)
  unfold dealt
  iintro ⟨Ho, Hu, Hs, Hrest⟩
  ihave Hv := (Entails.of_eq (counters (F := F) c)) $$ [Ho Hu]
  · isplitl [Ho] <;> iassumption
  imod hi $$ [Hv Hs] with Hi
  · isplitl [Hv] <;> iassumption
  imodintro
  isplitl [Hi] <;> iassumption

/-- The invariants, at whatever names, and the rest dealt out are every device's state for the run. -/
theorem gather : (bigSep Finset.univ fun c : Dev nD => iprop((bigSep Finset.univ fun i : CellIx => iprop(∃ κ : ℕ, cellInv ER (plan A B) κ (kcell (c, i))))
          ∗ (bigSep Finset.univ fun i : CellIx => reached ER (kcell (c, i)) 0)
          ∗ (bigSep Finset.univ fun i : CellIx => atPos ER (kcell (c, i)) 0 ∅ 0)
          ∗ bigSep Finset.univ fun t : TokIx => dutyTok ER (tokAt (c, t)).1 (tokAt (c, t)).2.1 (tokAt (c, t)).2.2) : sProp 𝕄)
      ⊢ bigSep Finset.univ (ready A B) := by
  simp only [bigSep_sep']
  rw [← bigSep_univ_prod (fun ci : Dev nD × CellIx => iprop(∃ κ : ℕ, cellInv ER (plan A B) κ (kcell ci))),
    ← bigSep_univ_prod (fun ci : Dev nD × CellIx => (reached ER (kcell ci) 0 : sProp 𝕄))]
  iintro ⟨HI, #HR, Hl⟩
  ihave HK := (BI.bigSep_exists_pi Finset.univ (fun (ci : Dev nD × CellIx) (κ : ℕ) => (cellInv ER (plan A B) κ (kcell ci) : sProp 𝕄))) $$ HI
  icases HK with ⟨%K, #HI⟩
  ihave Hl := (linear_intro (F := F)) $$ Hl
  iapply (spread (R := records A B K) (Φ := linear) fun c _ => by unfold ready; iintro H; iexists K; iexact H)
  isplitr
  · unfold records; isplitl; · iexact HI
    iexact HR
  · iexact Hl
/-- From the counters and the first holdings of all devices to every device's state for the run. -/
theorem settle : (bigSep Finset.univ fun c => iprop(Pipeline.ownSems0 (Ix := Unit) (Name := ℕ) (U := UU) (Lvl := ℕ) (Val := Elt F) (τ := τ) osem c
      ∗ unscopedSems0 c ∗ dealt A B c) : sProp 𝕄) ⊢ |={Set.univ}=> bigSep Finset.univ (ready A B) :=
  ((bigSep_mono fun c _ => open_cells A B c).trans (bigSep_fupd _ _)).trans (BI.fupd_mono (gather A B))

/-! ## The credit -/

/-- The debts of all devices at the start are the credit of each device's waits: two units at its barrier, and each copy's arrival. -/
theorem credit (c : Dev nD) : (Pipeline.launchCred due c : sProp 𝕄)
    ⊢ iprop(cred (tallyAt (barCell c) () 2) ∗ bigSep Finset.univ fun k : Fin 12 => cred (tallyAt (recvCell k c) () N)) := by
  have hs : (due : Dev nD → CellTallies nD τ sig Unit) = fun d =>
      ((fun d => (fun d => ∑ k ∈ (Finset.univ : Finset (Fin 12)), tallyAt (recvCell k (peer k d)) () N) d + (fun d => tallyAt (barCell (py d)) () 1) d) d
        + (fun d => tallyAt (barCell (px d)) () 1) d) := by
    funext d; unfold due due₁ dueFrom; rw [Finset.filter_true_of_mem fun k _ => Nat.zero_le _]
  have h2 : (tallyAt (barCell c) () 2 : CellTallies nD τ sig Unit) = tallyAt (barCell c) () 1 + tallyAt (barCell c) () 1 := by
    unfold tallyAt; rw [← tallyOn_add, ← Finsupp.single_add]
  have hr : (bigSep Finset.univ fun k : Fin 12 => Pipeline.launchCred (fun d => tallyAt (recvCell k (peer k d)) () N) c : sProp 𝕄)
      ⊢ bigSep Finset.univ fun k : Fin 12 => cred (tallyAt (recvCell k c) () N) :=
    bigSep_mono fun k _ => Pipeline.launchCred_tallyAt (.dma (recvS k)) (peer k) (peer k) (peer_peer k) (peer_peer k) () N c
  rw [hs, Pipeline.launchCred_add, Pipeline.launchCred_add, Pipeline.launchCred_sum, h2]
  iintro ⟨⟨Hr, Hy⟩, Hx⟩
  ihave Hy := (Pipeline.launchCred_tallyAt (.reg barS) py py py_py py_py () 1 c) $$ Hy
  ihave Hx := (Pipeline.launchCred_tallyAt (.reg barS) px px px_px px_px () 1 c) $$ Hx
  isplitl [Hx Hy]
  · iapply (cred_add _ _).2
    isplitl [Hx] <;> iassumption
  iapply hr
  iexact Hr

end Cert.Grid

end
-- ==== Proof.Launch.lean ====
/-
The whole run on the four devices: it ends, every counter is back at zero, the operands are as they were and each device's result
array holds `result`.
-/
module

public import proofs.«01_k».proof.Proof.Body
public import proofs.«01_k».proof.Proof.Cover
public import proofs.«01_k».proof.Proof.Deal
public import Idealize.ShloMosaic.Lib.Pipeline.CollectiveSegs
public import proofs.«01_k».proof.Proof.Gen.KernelIdeal.Points

@[expose] public section

noncomputable section

namespace Cert.Grid

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at the start. -/
abbrev start₀ : MemSt nD τ sig (Elt F) := ⟨m, fun _ => 0, ρ⟩

/-- The operands as the devices hold them on chip, and what the result array held at the start. -/
def opA (c : Dev nD) : Vec F S1024x4096 .f32 := (win0_0.blk (0 : Fin 1)).view.read (Elt F) (m ((c : Thread nD τ).loc main_arg0))
def opB (c : Dev nD) : Vec F S1024x4096 .f32 := (win0_1.blk (0 : Fin 1)).view.read (Elt F) (m ((c : Thread nD τ).loc main_arg1))
def old (c : Dev nD) : Vec F S1024x1024 .f32 := (win0_2.blk (0 : Fin 1)).view.read (Elt F) (m ((c : Thread nD τ).loc main_v1))
/-- What device `c` ends with. -/
@[irreducible] def final (c : Dev nD) : Vec F S1024x1024 .f32 := result (opA m) (opB m) c (old m c)

/-! ## Before and after the body -/

/-- What the body of device `c` starts from, apart from its buffers. -/
def begun (c : Dev nD) : sProp 𝕄 :=
  iprop(ready (opA m) (opB m) c ∗ (cred (tallyAt (barCell c) () 2) ∗ bigSep Finset.univ fun k : Fin 12 => cred (tallyAt (recvCell k c) () N)) ∗ levAts idx lvl)
def before (c : Dev nD) : sProp 𝕄 := iprop(begun m c ∗ scratch c)
def after (c : Dev nD) : sProp 𝕄 := iprop(scratch c ∗ zeros c)

/-- The proof's data of the one pipeline: the operands stay, the result is stored whole. -/
def dats (_ : Fin 1) (c : Dev nD) : Dat τ (Elt F) Unit ℕ UU ℕ cfg0 c where
  A w := m ((cfg0.win w).arr.view.loc (c : Thread nD τ))
  after w _ := match w with
    | ⟨0, _⟩ => opA m c
    | ⟨1, _⟩ => opB m c
    | ⟨2, _⟩ => final m c
  Φ t := match t with
    | ⟨0, _⟩ => before m c
    | ⟨_ + 1, _⟩ => after c
  q _ := fullShare
  owed t := match t with
    | ⟨0, _⟩ => due c
    | ⟨_ + 1, _⟩ => 0

/-- Twelve of something, one by one. -/
theorem twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem tokens_eq (c : Dev nD) : (tokens c : sProp 𝕄)
    = iprop((bigSep Finset.univ fun k : Fin 12 => pend k c) ∗ bigSep Finset.univ fun k : Fin 12 => coming k c) := by
  rw [twelve, twelve]; rfl
theorem zeros_eq (c : Dev nD) : (zeros c : sProp 𝕄)
    = iprop(semVal (barCell c) 0 ∗ (bigSep Finset.univ fun k : Fin 12 => zs k c) ∗ bigSep Finset.univ fun k : Fin 12 => zr k c) := by
  rw [twelve, twelve]; rfl

/-- A device's own state and its credit, sorted by the barrier and the copies. -/
theorem sort (c : Dev nD) :
    iprop(linear c ∗ cred (tallyAt (barCell c) () 2) ∗ bigSep Finset.univ fun k : Fin 12 => cred (tallyAt (recvCell k c) () N))
      ⊢ (iprop(atBar c ∗ tokens c) : sProp 𝕄) := by
  rw [tokens_eq]; unfold linear atBar pend coming
  simp only [bigSep_sep']
  iintro ⟨⟨Hb, Hs, Hr, Hx, Hy, Ht, Hp⟩, Hc, Hcr⟩
  isplitl [Hb Hc Hx Hy]
  · isplitl [Hb Hc]
    · isplitl [Hb] <;> iassumption
    isplitl [Hx] <;> iassumption
  isplitl [Hs Ht Hp]
  · isplitl [Hs]; · iexact Hs
    isplitl [Ht] <;> iassumption
  isplitl [Hr] <;> iassumption

/-- The point of the grid, in the pipeline's numbering. -/
abbrev t₀ : Fin cfg0.N := t0_0

/-- The kernel's body at the buffers of the one point. -/
abbrev theBody : Prog (TpuEff nD τ sig (Elt F) Λ₀ .tc) PUnit :=
  cc0_body dyM (Memref.isWhole_whole _) wM (Memref.isWhole_whole _) outM (Memref.isWhole_whole _) s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15

/-- The body with what it starts from and what it ends with, as the pipeline states them. -/
theorem body_run (c : Dev nD) (d0 d1 : Vec F S1024x4096 .f32) (d2 : Vec F S1024x1024 .f32) :
    iprop(before m c ∗ debt c (due c) ∗ own c dyM ((dats m 0 c).before (0 : Fin 3) t₀ d0) ∗ own c wM ((dats m 0 c).before (1 : Fin 3) t₀ d1) ∗ own c outM d2)
      ⊢ WP c (theBody (F := F)) fun _ => (iprop(after c ∗ debt c 0 ∗ own c dyM (opA m c) ∗ own c wM (opB m c) ∗ own c outM (final m c)) : sProp 𝕄) := by
  have h0 : (dats m 0 c).before (0 : Fin 3) t₀ d0 = opA m c := by unfold Dat.before; rw [if_pos (fetch0_0 t₀)]; rfl
  have h1 : (dats m 0 c).before (1 : Fin 3) t₀ d1 = opB m c := by unfold Dat.before; rw [if_pos (fetch0_1 t₀)]; rfl
  rw [h0, h1]
  unfold before begun ready after final
  rw [result_base (opA m) (opB m) c (old m c) d2]
  iintro ⟨⟨⟨⟨%K, HR, Hl⟩, Hcr, HL⟩, Hs⟩, HO, Hdy, Hw, Ho⟩
  ihave H := (sort (F := F) c) $$ [Hl Hcr]
  · isplitl [Hl] <;> iassumption
  icases H with ⟨Hb, Ht⟩
  iapply (run_body (opA m) (opB m) K c d2) $$ [HR HL Hdy Hw Ho HO Hb Hs Ht]
  · isplitl [HR]; · iexact HR
    isplitl [HL]; · iexact HL
    isplitl [Hdy]; · iexact Hdy
    isplitl [Hw]; · iexact Hw
    isplitl [Ho]; · iexact Ho
    isplitl [HO]; · iexact HO
    isplitl [Hb]; · iexact Hb
    isplitl [Hs] <;> iassumption
  iintro ⟨Hdy, Hw, Ho, Hs, Hz, HO⟩
  isplitl [Hs Hz]
  · isplitl [Hs] <;> iassumption
  isplitl [HO]; · iexact HO
  isplitl [Hdy]; · iexact Hdy
  isplitl [Hw] <;> iassumption

/-- The body depends on its staging buffers only. -/
theorem body_congr {a a' b b' : Memref sig .tc .vmem S1024x4096 .f32} {d d' : Memref sig .tc .vmem S1024x1024 .f32}
   (ha : a.IsWhole) (ha' : a'.IsWhole) (hb : b.IsWhole) (hb' : b'.IsWhole) (hd : d.IsWhole) (hd' : d'.IsWhole) (ea : a = a') (eb : b = b') (ed : d = d') :
  (cc0_body a ha b hb d hd s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 : Prog (TpuEff nD τ sig (Elt F) Λ₀ .tc) PUnit) = cc0_body a' ha' b' hb' d' hd' s1aM (Memref.isWhole_whole _) s1bM (Memref.isWhole_whole _) c1aM (Memref.isWhole_whole _) c1bM (Memref.isWhole_whole _) s2aM (Memref.isWhole_whole _) s2bM (Memref.isWhole_whole _) c2aM (Memref.isWhole_whole _) c2bM (Memref.isWhole_whole _) s3aM (Memref.isWhole_whole _) s3bM (Memref.isWhole_whole _) r3aM (Memref.isWhole_whole _) r3bM (Memref.isWhole_whole _) r4aM (Memref.isWhole_whole _) r4bM (Memref.isWhole_whole _) cc0_scratch14 cc0_scratch15 := by subst ea eb ed; rfl

/-- The body the pipeline calls at its point is `theBody`. -/
theorem body_eq : (defs₀ (F := F)) .tc cfg0.body (cfg0.bodyArgs t₀ (cfg0.slots t₀)) = theBody :=
  Eq.trans (b := bodyAt0 t₀) rfl (body_congr _ _ _ _ _ _ rfl rfl rfl)

/-! The pipeline's own names for the buffers and for what stands before and after the body. -/

theorem stage_0 (c : Dev nD) (X : Vec F S1024x4096 .f32) :
    (owns (c : Thread nD τ) ((cfg0.win (0 : Fin 3)).stage (cfg0.slots t₀ (0 : Fin 3))) fullShare X : sProp 𝕄) = own c dyM X := rfl
theorem stage_1 (c : Dev nD) (X : Vec F S1024x4096 .f32) :
    (owns (c : Thread nD τ) ((cfg0.win (1 : Fin 3)).stage (cfg0.slots t₀ (1 : Fin 3))) fullShare X : sProp 𝕄) = own c wM X := rfl
theorem stage_2 (c : Dev nD) (X : Vec F S1024x1024 .f32) :
    (owns (c : Thread nD τ) ((cfg0.win (2 : Fin 3)).stage (cfg0.slots t₀ (2 : Fin 3))) fullShare X : sProp 𝕄) = own c outM X := rfl
theorem idle_none (w : Fin 3) : cfg0.idle w (cfg0.grid.coords t₀) = false := rfl
theorem inv_0 (c : Dev nD) : (dats m 0 c).Φ t₀.castSucc = before m c := rfl
theorem inv_1 (c : Dev nD) : (dats m 0 c).Φ t₀.succ = after c := rfl
theorem after_0 (c : Dev nD) : (dats m 0 c).after (0 : Fin 3) t₀ = opA m c := rfl
theorem after_1 (c : Dev nD) : (dats m 0 c).after (1 : Fin 3) t₀ = opB m c := rfl
theorem after_2 (c : Dev nD) : (dats m 0 c).after (2 : Fin 3) t₀ = final m c := rfl

/-- What the pipeline asks of the body. -/
theorem body_obligation (c : Dev nD) : BodyObligation (dats m 0 c) (defs₀ (F := F)) 𝒱₀ () Set.univ := fun t => by
  rw [fin_N0 t, bigSep_W0, bigSep_W0, body_eq]
  simp only [idle_none, inv_0, inv_1, after_0, after_1, after_2, stage_0, stage_1, stage_2]
  have hin : (dats m 0 c).owesAt () t₀.castSucc ⊢ (debt c (due c) : sProp 𝕄) := by
    unfold debt Dat.owesAt Pipeline.owesWithin
    iintro ⟨%W, %hW, HO⟩
    iexists W; iexact HO
  have hout : (debt c 0 : sProp 𝕄) ⊢ (dats m 0 c).owesAt () t₀.succ := by
    unfold debt Dat.owesAt Pipeline.owesWithin
    iintro ⟨%W, HO⟩
    iexists W; isplitr
    · ipureintro; exact fun _ _ => Or.inl trivial
    · iexact HO
  have hpost : WP c (theBody (F := F)) (fun _ => (iprop(after c ∗ debt c 0 ∗ own c dyM (opA m c) ∗ own c wM (opB m c) ∗ own c outM (final m c)) : sProp 𝕄))
      ⊢ WP c (theBody (F := F)) fun _ => (iprop(after c ∗ (dats m 0 c).owesAt () t₀.succ ∗ own c dyM (opA m c) ∗ own c wM (opB m c) ∗ own c outM (final m c)) : sProp 𝕄) :=
    wp_mono _ _ _ fun _ => sep_mono_right (sep_mono_left hout)
  iintro ⟨Hb, HO, ⟨%d0, Hdy⟩, ⟨%d1, Hw⟩, ⟨%d2, Ho⟩⟩
  ihave HO := hin $$ HO
  iapply hpost
  iapply (body_run m c d0 d1 ((dats m 0 c).before (2 : Fin 3) t₀ d2))
  isplitl [Hb]; · iexact Hb
  isplitl [HO]; · iexact HO
  isplitl [Hdy]; · iexact Hdy
  isplitl [Hw] <;> iassumption

/-! ## The launch -/

theorem ownSemFacts : Pipeline.OwnSemFacts cfg0.spec osem := by decide +kernel

theorem share_eq (c : Dev nD) (w : Fin cfg0.W) : (dats m 0 c).share w = fullShare := by unfold Dat.share; split <;> rfl

theorem begun_intro (c : Dev nD) :
    iprop(Pipeline.unscopedRestP Pipeline.Prefetch.none cfg0.spec c (fun b => m ((c : Thread nD τ).loc b)) ∗ levAts idx lvl
        ∗ Pipeline.launchCred due c ∗ prngReg c (ρ c) ∗ ready (opA m) (opB m) c)
      ⊢ |={Set.univ}=> iprop(begun m c ∗ emp) := by
  iintro ⟨-, HL, Hc, -, Hr⟩
  ihave Hc := (credit (F := F) c) $$ Hc
  imodintro
  unfold begun
  isplitl
  · isplitl [Hr]; · iexact Hr
    isplitl [Hc] <;> iassumption
  · iempintro

/-- The scratch buffers, as the pipeline leaves them to the body. -/
theorem scratch_eq (c : Dev nD) : (scratch c : sProp 𝕄) = Pipeline.scopedRest cfg0.spec c := by
  rw [scopedRest0_eq]; unfold scratch junk own; simp only [owns_whole]; rfl

theorem before_intro (c : Dev nD) :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, ← scratch_eq]
  unfold before
  iintro ⟨Hb, -, Hs⟩
  isplitl [Hb] <;> iassumption

theorem after_exit (c : Dev nD) :
    (dats m 0 c).Φ (Fin.last cfg0.N) ⊢ iprop(unscopedSems0 c ∗ Pipeline.ownSems0 osem c ∗ Pipeline.scopedRest cfg0.spec c) := by
  have h : (zeros c : sProp 𝕄) ⊢ iprop(Pipeline.ownSems0 osem c ∗ unscopedSems0 c) := by
    rw [counters, bigSep_cells, zeros_eq]; exact BI.Entails.refl _
  rw [show (dats m 0 c).Φ (Fin.last cfg0.N) = after c from rfl, ← scratch_eq]
  unfold after
  iintro ⟨Hs, Hz⟩
  ihave Hz := h $$ Hz
  icases Hz with ⟨Ho, Hu⟩
  isplitl [Hu]; · iexact Hu
  isplitl [Ho] <;> iassumption

theorem stage_waits (c : Dev nD) : (levAts idx lvl : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array at the end. -/
def arrayEnd (c : Dev nD) (w : Fin cfg0.W) : Buf (Elt F) ((cfg0.win w).arr.view.loc (c : Thread nD τ)) := (dats m 0 c).arrAt w cfg0.N

set_option maxRecDepth 8000 in
/-- From any memory with every counter at zero, every fair run on the four devices ends; then every array holds what the
    proof's data say and every counter is at zero. -/
theorem run_all : θ_run defs (onTc (τ := τ) (main (F := F))) (start₀ m ρ)
    (fun r => (∀ (c : Dev nD) (w : Fin cfg0.W), r.2.mem ((cfg0.win w).arr.view.loc (c : Thread nD τ)) = arrayEnd m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := due) (howed₀ := fun _ => rfl) (howedN := fun _ => rfl)
    (L := idx) (lv := lvl) (hL := idx_of_ne) (hwaits := stage_waits m)
    (G := dealt (opA m) (opB m)) (G' := ready (opA m) (opB m)) (u₀ := ghost₀)
    (hu₀ := by
      unfold ghost₀
      iintro Hu
      ihave H := (ownU_pair _ _) $$ Hu
      icases H with ⟨HP, HX⟩
      imod (deal (opA m) (opB m)) $$ HX with HG
      imodintro
      isplitl [HP] <;> iassumption)
    (hglob := settle (opA m) (opB m))
    (hA := fun _ _ => rfl) (hpf := fun _ k => k.elim0)
    (X := begun m) (Y := fun c => unscopedSems0 c) (Z := fun _ => iprop(emp))
    (hX := begun_intro m ρ) (hin := before_intro m) (hout := after_exit m)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays are as they were. -/
theorem arrayEnd_0 (c : Dev nD) : arrayEnd m c (0 : Fin 3) = m ((c : Thread nD τ).loc main_arg0) := (dats m 0 c).arrAt_in (0 : Fin 3) rfl _
theorem arrayEnd_1 (c : Dev nD) : arrayEnd m c (1 : Fin 3) = m ((c : Thread nD τ).loc main_arg1) := (dats m 0 c).arrAt_in (1 : Fin 3) rfl _

end Cert.Grid

end
-- ==== Proof.Frames.lean ====
/-
The arrays at the end of a run, and the claims that both readings of the kernel run and leave their operands alone.
-/
module

public import proofs.«01_k».proof.Defs
public import proofs.«01_k».proof.Proof.Launch
public import proofs.«01_k».proof.Proof.Gen.Kernel

@[expose] public section

noncomputable section

namespace Cert.Grid

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The operands the body reads are the operands' arrays. -/
theorem opA_eq (c : Dev nD) : opA m c = m ((c : Thread nD τ).loc main_arg0) :=
  Memref.read_access_unit_zero (Elt F) main_arg0 (funext fun a => by fin_cases a <;> decide) (fun a => by fin_cases a <;> decide) _
theorem opB_eq (c : Dev nD) : opB m c = m ((c : Thread nD τ).loc main_arg1) :=
  Memref.read_access_unit_zero (Elt F) main_arg1 (funext fun a => by fin_cases a <;> decide) (fun a => by fin_cases a <;> decide) _

/-- The result array ends as the body left the result's buffer. -/
theorem arrayEnd_2 (c : Dev nD) : arrayEnd m c (2 : Fin 3) = final m c := by
  have h : (win0_2.blk (0 : Fin 1)).view.read (Elt F) (arrayEnd m c (2 : Fin 3)) = final m c := by
    unfold arrayEnd
    rw [show cfg0.N = ((0 : Fin 1) : Fin cfg0.N).val + 1 from rfl, (dats m 0 c).arrAt_succ (2 : Fin 3) (0 : Fin 1),
      show (cfg0.win (2 : Fin 3)).flush (0 : Fin 1) = true from by decide, if_pos rfl]
    exact (View.read_write_univ _ _).trans (after_2 m c)
  exact (Memref.read_access_unit_zero (Elt F) main_v1 (funext fun a => by fin_cases a <;> decide) (fun a => by fin_cases a <;> decide) _).symm.trans h

/-- Every fair run ends with the operands as they were and every counter at zero. -/
theorem run_frame : θ_run defs (onTc (τ := τ) (main (F := F))) (start₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (arrayEnd_0 m c), (h.1 c (1 : Fin 3)).trans (arrayEnd_1 m c)⟩, h.2⟩)
    (run_all m ρ)

/-- Every fair run ends with the result array at `final` and the operands as they were. -/
theorem run_value : θ_run defs (onTc (τ := τ) (main (F := F))) (start₀ m ρ)
    (fun r => ∀ c : Dev nD, r.2.mem ((c : Thread nD τ).loc main_v1) = final m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h.1 c (2 : Fin 3)).trans (arrayEnd_2 m c), (h.1 c (0 : Fin 3)).trans (arrayEnd_0 m c),
    (h.1 c (1 : Fin 3)).trans (arrayEnd_1 m c)⟩) (run_all m ρ)

/-- The kernel at the extended reals runs, leaves its operands and ends with every counter at zero. -/
theorem frame_kernelIdeal : Cert.quiescent_KernelIdeal := fun m ρ _ => run_frame m ρ

/-- The two programs' tables of bodies are one. -/
theorem bodies_eq : Cert.Kernel.defs₀ (F := Bits) = Cert.KernelIdeal.defs₀ (F := Bits) := by
  unfold Cert.Kernel.defs₀ Cert.KernelIdeal.defs₀
  refine congrArg (Defs.onTc (nD := nD) (τ := τ) (sig := sig) (Val := Elt Bits) (Λ := Λ₀)) (funext fun ℓ => funext fun x => ?_)
  match ℓ, x with
  | 0, (_, _) => rfl
  | ⟨_ + 1, h⟩, _ => exact absurd h (Nat.not_lt.2 (Nat.le_add_left _ _))

/-- So are their tables of bodies and pipelines. -/
theorem defs_eq : Cert.Kernel.defs (F := Bits) = Cert.KernelIdeal.defs (F := Bits) := by
  unfold Cert.Kernel.defs Cert.KernelIdeal.defs
  exact congrArg (Pipeline.defs (pcfgs (F := Bits))) bodies_eq

/-- The kernel at the bit patterns, whose text is the same, runs and ends likewise. -/
theorem frame_kernel : Cert.quiescent_Kernel := fun m ρ _ => by
  have h := run_frame (F := Bits) m ρ
  rw [← defs_eq] at h
  exact h

end Cert.Grid

end
-- ==== Proof.Products.lean ====
/-
What each block of the kernel holds when floats are extended reals.

`dots A B i n` is the product of row `i` of `A` with row `n` of `B`. Every block the kernel computes holds such
products, or sums of them over some of the devices, at the rows and columns of the result that the block belongs to.
-/
module

public import proofs.«01_k».proof.Proof.Cover
public import Idealize.ShloMosaic.Lib.Pointwise
public import Idealize.ShloMosaic.PureOps.Ideal

@[expose] public section

noncomputable section

namespace Cert.Grid

open Cert.KernelIdeal Cert.KernelIdeal.Gen
open Idealize.ShloMosaic Idealize.ShloMosaic.TcCoe

/-- The entry of `A` at row `i` and column `k`. -/
def ent (A : Vec Ideal S1024x4096 .f32) (i : ℕ) (k : Fin 4096) : EReal := if h : i < 1024 then A (ix2 ⟨i, h⟩ k) else 0

/-- The product of row `i` of `A` with row `n` of `B`. -/
def dots (A B : Vec Ideal S1024x4096 .f32) (i n : ℕ) : EReal := ∑ k : Fin 4096, ent A i k * ent B n k

/-- A block of 256 rows holds the rows from its offset. -/
theorem rows256_apply (A : Vec Ideal S1024x4096 .f32) {o : Fin 2 → ℕ} (h : ∀ a, o a + S256x4096.size a ≤ S1024x4096.size a)
    (h1 : o 1 = 0) (r : Fin 256) (k : Fin 4096) : rows256 A o h (ix2 r k) = ent A (o 0 + r.val) k := by
  have h0 : o 0 + 256 ≤ 1024 := h 0
  have hr : o 0 + r.val < 1024 := by have := r.isLt; omega
  unfold ent rows256
  rw [dif_pos hr]
  refine congrArg A (funext fun a => Fin.ext ?_)
  fin_cases a
  · simp [Rect.emb, Rect.unit]
  · simp [Rect.emb, Rect.unit, h1]

/-- A block of 512 rows holds the rows from its offset. -/
theorem rows512_apply (A : Vec Ideal S1024x4096 .f32) {o : Fin 2 → ℕ} (h : ∀ a, o a + S512x4096.size a ≤ S1024x4096.size a)
    (h1 : o 1 = 0) (r : Fin 512) (k : Fin 4096) : rows512 A o h (ix2 r k) = ent A (o 0 + r.val) k := by
  have h0 : o 0 + 512 ≤ 1024 := h 0
  have hr : o 0 + r.val < 1024 := by have := r.isLt; omega
  unfold ent rows512
  rw [dif_pos hr]
  refine congrArg A (funext fun a => Fin.ext ?_)
  fin_cases a
  · simp [Rect.emb, Rect.unit]
  · simp [Rect.emb, Rect.unit, h1]

/-- The kernel's product of two blocks of rows holds the products of their rows. -/
theorem product_apply (A B : Vec Ideal S1024x4096 .f32) {o o' : Fin 2 → ℕ} (h : ∀ a, o a + S256x4096.size a ≤ S1024x4096.size a)
    (h' : ∀ a, o' a + S512x4096.size a ≤ S1024x4096.size a) (h1 : o 1 = 0) (h1' : o' 1 = 0) (j : S256x512.Idx) :
    k0_pay3 (rows256 A o h) (rows512 B o' h') j = dots A B (o 0 + (j 0).val) (o' 0 + (j 1).val) := by
  pointwise [k0_pay3]
  unfold dots
  refine Finset.sum_congr rfl fun k _ => ?_
  exact congrArg₂ (· * ·) (rows256_apply A h h1 (j 0) k) (rows512_apply B h' h1' (j 1) k)

variable (A B : Dev nD → Vec Ideal S1024x4096 .f32)

/-! ## What each copy of the first two exchanges carries -/

theorem part0_apply (c : Dev nD) (j : S256x512.Idx) :
    part0 A B c j = dots (A c) (B c) (512 * (1 - xb c) + 256 * (1 - yb c) + (j 0).val) (0 + (j 1).val) :=
  (show part0 A B c j = k0_pay3 (rows256 (A c) (k0_off1 c) (k0_off1_inb c)) (wLo (B c)) j by pointwise [part0, k0_pay1, k0_pay3]).trans
    ((product_apply (A c) (B c) _ _ (by rw [off1_eq]; rfl) rfl j).trans (by rw [off1_eq]; rfl))

theorem part1_apply (c : Dev nD) (j : S256x512.Idx) :
    part1 A B c j = dots (A c) (B c) (512 * (1 - yb c) + 256 * (1 - xb c) + (j 0).val) (512 + (j 1).val) :=
  (show part1 A B c j = k0_pay3 (rows256 (A c) (k0_off4 c) (k0_off4_inb c)) (wHi (B c)) j by pointwise [part1, k0_pay2, k0_pay3]).trans
    ((product_apply (A c) (B c) _ _ (by rw [off4_eq]; rfl) rfl j).trans (by rw [off4_eq]; rfl))

theorem part4_apply (c : Dev nD) (j : S256x512.Idx) :
    part4 A B c j = dots (A c) (B c) (512 * (1 - xb c) + 256 * yb c + (j 0).val) (0 + (j 1).val) :=
  (show part4 A B c j = k0_pay3 (rows256 (A c) (k0_off11 c) (k0_off11_inb c)) (wLo (B c)) j by pointwise [part4, k0_pay9, k0_pay3]).trans
    ((product_apply (A c) (B c) _ _ (by rw [off11_eq]; rfl) rfl j).trans (by rw [off11_eq]; rfl))

theorem part5_apply (c : Dev nD) (j : S256x512.Idx) :
    part5 A B c j = dots (A c) (B c) (512 * (1 - yb c) + 256 * xb c + (j 0).val) (512 + (j 1).val) :=
  (show part5 A B c j = k0_pay3 (rows256 (A c) (k0_off14 c) (k0_off14_inb c)) (wHi (B c)) j by pointwise [part5, k0_pay10, k0_pay3]).trans
    ((product_apply (A c) (B c) _ _ (by rw [off14_eq]; rfl) rfl j).trans (by rw [off14_eq]; rfl))

theorem own2_apply (c : Dev nD) (j : S256x512.Idx) :
    own2 A B c j = dots (A c) (B c) (512 * xb c + 256 * (1 - yb c) + (j 0).val) (0 + (j 1).val) :=
  (product_apply (A c) (B c) (k0_off7_inb c) _ (by rw [off7_eq]; rfl) rfl j).trans (by rw [off7_eq]; rfl)

theorem own3_apply (c : Dev nD) (j : S256x512.Idx) :
    own3 A B c j = dots (A c) (B c) (512 * yb c + 256 * (1 - xb c) + (j 0).val) (512 + (j 1).val) :=
  (show own3 A B c j = k0_pay3 (rows256 (A c) (k0_off9 c) (k0_off9_inb c)) (wHi (B c)) j by pointwise [own3, k0_pay6, k0_pay3]).trans
    ((product_apply (A c) (B c) _ _ (by rw [off9_eq]; rfl) rfl j).trans (by rw [off9_eq]; rfl))

theorem own8_apply (c : Dev nD) (j : S256x512.Idx) :
    own8 A B c j = dots (A c) (B c) (512 * yb c + 256 * xb c + (j 0).val) (512 + (j 1).val) :=
  (show own8 A B c j = k0_pay3 (rows256 (A c) (k0_off19 c) (k0_off19_inb c)) (wHi (B c)) j by pointwise [own8, k0_pay13, k0_pay3]).trans
    ((product_apply (A c) (B c) _ _ (by rw [off19_eq]; rfl) rfl j).trans (by rw [off19_eq]; rfl))

/-- A block after one exchange holds the sum over the two devices of a pair. -/
theorem part2_apply (c : Dev nD) (j : S256x512.Idx) : part2 A B c j = own2 A B c j + part0 A B (px c) j := by
  pointwise [part2, k0_pay5, k0_pay4]
theorem part3_apply (c : Dev nD) (j : S256x512.Idx) : part3 A B c j = own3 A B c j + part1 A B (py c) j := by
  pointwise [part3, k0_pay8, k0_pay7]

/-- A completed block holds the device's own product and the two blocks it received. -/
theorem sumA_split (c : Dev nD) (j : S256x512.Idx) :
    sumA A B c j = k0_pay3 (rows256 (A c) (k0_off17 c) (k0_off17_inb c)) (wLo (B c)) j + (part4 A B (px c) j + part2 A B (py c) j) := by
  pointwise [sumA, k0_pay11, k0_pay3]
theorem sumB_split (c : Dev nD) (j : S256x512.Idx) : sumB A B c j = own8 A B c j + (part5 A B (py c) j + part3 A B (px c) j) := by
  pointwise [sumB, k0_pay15, k0_pay14]

/-- A change of format changes no extended real: a block is sent on as it was completed. -/
theorem partA_eq (c : Dev nD) (j : S256x512.Idx) : partA A B c j = sumA A B c j := by
  pointwise [partA, sumA, k0_pay12]
theorem partB_eq (c : Dev nD) (j : S256x512.Idx) : partB A B c j = sumB A B c j := by
  pointwise [partB, sumB, k0_pay16]

/-! ## The completed blocks -/

/-- The product of row `i` of `dy` with row `n` of `W`, summed over the four devices. -/
def total (i n : ℕ) : EReal := ∑ c : Dev nD, dots (A c) (B c) i n

theorem xb_px : ∀ c : Dev nD, xb (px c) = 1 - xb c := by decide
theorem yb_px : ∀ c : Dev nD, yb (px c) = yb c := by decide
theorem xb_py : ∀ c : Dev nD, xb (py c) = xb c := by decide
theorem yb_py : ∀ c : Dev nD, yb (py c) = 1 - yb c := by decide
theorem xb_neg (c : Dev nD) : 1 - (1 - xb c) = xb c := by have := xb_lt c; omega
theorem yb_neg (c : Dev nD) : 1 - (1 - yb c) = yb c := by have := yb_lt c; omega
theorem py_px : ∀ c : Dev nD, py (px c) = px (py c) := by decide

/-- A sum over the four devices, from any one of them. -/
theorem sum_four (f : Dev nD → EReal) (c : Dev nD) : ∑ d : Dev nD, f d = f c + (f (px c) + (f (py c) + f (px (py c)))) := by
  have h : (Finset.univ : Finset (Dev nD)) = {c, px c, py c, px (py c)} := by revert c; decide
  have h1 : ∀ c : Dev nD, c ∉ ({px c, py c, px (py c)} : Finset (Dev nD)) := by decide
  have h2 : ∀ c : Dev nD, px c ∉ ({py c, px (py c)} : Finset (Dev nD)) := by decide
  have h3 : ∀ c : Dev nD, py c ∉ ({px (py c)} : Finset (Dev nD)) := by decide
  rw [h, Finset.sum_insert (h1 c), Finset.sum_insert (h2 c), Finset.sum_insert (h3 c), Finset.sum_singleton]

/-- A device's completed block of the first 512 columns holds the sums over all four devices. -/
theorem sumA_apply (c : Dev nD) (j : S256x512.Idx) :
    sumA A B c j = total A B (512 * xb c + 256 * yb c + (j 0).val) (0 + (j 1).val) := by
  unfold total
  rw [sum_four _ c, sumA_split, product_apply (A c) (B c) _ _ (by rw [off17_eq]; rfl) rfl, part2_apply, part4_apply, own2_apply,
    part0_apply, off17_eq]
  simp only [xb_px, yb_px, xb_py, yb_py, xb_neg, yb_neg]
  rfl

/-- A device's completed block of the last 512 columns holds the sums over all four devices. -/
theorem sumB_apply (c : Dev nD) (j : S256x512.Idx) :
    sumB A B c j = total A B (512 * yb c + 256 * xb c + (j 0).val) (512 + (j 1).val) := by
  unfold total
  rw [sum_four _ c, sumB_split, part3_apply, part5_apply, own8_apply, own3_apply, part1_apply, py_px]
  simp only [xb_px, yb_px, xb_py, yb_py, xb_neg, yb_neg]
  exact congrArg _ (add_left_comm _ _ _)

end Cert.Grid

end
-- ==== Proof.Value.lean ====
/-
What the result holds at the end: at row `i` and column `n` the product of row `i` of `dy` with row `n` of `W`,
summed over the four devices, on every device.
-/
module

public import proofs.«01_k».proof.Proof.Products

@[expose] public section

noncomputable section

namespace Cert.Grid

open Cert.KernelIdeal Cert.KernelIdeal.Gen
open Idealize.ShloMosaic Idealize.ShloMosaic.TcCoe

variable (A B : Dev nD → Vec Ideal S1024x4096 .f32)

/-- The products summed over the four devices, as an array. -/
def totals : Vec Ideal S1024x1024 .f32 := fun j => total A B (j 0).val (j 1).val

/-- The totals over a block of the result. -/
theorem totals_256 {o : Fin 2 → ℕ} (h : ∀ a, o a + S256x512.size a ≤ S1024x1024.size a) (i : S256x512.Idx) {a b : ℕ} (e : o = ![a, b]) :
    totals A B ((or256 o h).emb i) = total A B (a + (i 0).val) (b + (i 1).val) := by
  subst e
  simp [totals, Rect.emb, Rect.unit]
theorem totals_512 {o : Fin 2 → ℕ} (h : ∀ a, o a + S512x512.size a ≤ S1024x1024.size a) (i : S512x512.Idx) {a b : ℕ} (e : o = ![a, b]) :
    totals A B ((or512 o h).emb i) = total A B (a + (i 0).val) (b + (i 1).val) := by
  subst e
  simp [totals, Rect.emb, Rect.unit]

/-- A 512 × 512 block glued from two halves is `T` when each half is. -/
theorem glue_eq {o o' : Fin 2 → ℕ} (h : ∀ a, o a + S256x512.size a ≤ S512x512.size a) (h' : ∀ a, o' a + S256x512.size a ≤ S512x512.size a)
    (hc : (o = ![0, 0] ∧ o' = ![256, 0]) ∨ (o = ![256, 0] ∧ o' = ![0, 0])) {X Y : Vec Ideal S256x512 .bf16} {T : Vec Ideal S512x512 .bf16}
    (hX : ∀ j, X j = T ((hr o h).emb j)) (hY : ∀ j, Y j = T ((hr o' h').emb j)) (i : S512x512.Idx) : glue o o' h h' X Y i = T i := by
  unfold glue
  refine overlay_eq _ hY fun n' => overlay_eq _ hX fun n => ?_
  exfalso
  rw [Rect.mem_set_unit] at n n'
  have h0 : (i 0).val < 512 := (i 0).isLt
  have h1 : (i 1).val < 512 := (i 1).isLt
  generalize (i 0).val = a at *
  rcases hc with ⟨rfl, rfl⟩ | ⟨rfl, rfl⟩ <;> simp [Fin.forall_fin_two] at n n' <;> omega

/-- The first 512 columns of the other column's rows. -/
theorem otherA_apply (c : Dev nD) (i : S512x512.Idx) :
    otherA A B c i = total A B (512 * (1 - xb c) + (i 0).val) (0 + (i 1).val) := by
  refine glue_eq (T := fun i => total A B (512 * (1 - xb c) + (i 0).val) (0 + (i 1).val)) _ _ (halves_y c) (fun j => ?_) (fun j => ?_) i
  · refine (partA_eq A B _ j).trans ((sumA_apply A B _ j).trans ?_)
    simp [Rect.emb, Rect.unit, off3_eq, xb_px, yb_px, xb_py, yb_py, Nat.add_assoc]
  · refine (partA_eq A B _ j).trans ((sumA_apply A B _ j).trans ?_)
    simp [Rect.emb, Rect.unit, off13_eq, xb_px, yb_px, Nat.add_assoc]

/-- The last 512 columns of the other row's rows. -/
theorem otherB_apply (c : Dev nD) (i : S512x512.Idx) :
    otherB A B c i = total A B (512 * (1 - yb c) + (i 0).val) (512 + (i 1).val) := by
  refine glue_eq (T := fun i => total A B (512 * (1 - yb c) + (i 0).val) (512 + (i 1).val)) _ _ (halves_x c) (fun j => ?_) (fun j => ?_) i
  · refine (partB_eq A B _ j).trans ((sumB_apply A B _ j).trans ?_)
    simp [Rect.emb, Rect.unit, off6_eq, xb_px, yb_px, xb_py, yb_py, Nat.add_assoc]
  · refine (partB_eq A B _ j).trans ((sumB_apply A B _ j).trans ?_)
    simp [Rect.emb, Rect.unit, off16_eq, xb_py, yb_py, Nat.add_assoc]

/-- The result holds the totals, whatever its buffer held before. -/
theorem result_totals (c : Dev nD) (f : Vec Ideal S1024x1024 .f32) : result A B c f = totals A B := by
  refine result_eq A B c f _ (fun i => ?_) (fun i => ?_) (fun i => ?_) (fun i => ?_) (fun i => ?_) (fun i => ?_)
  · rw [totals_512 A B _ i (off22_eq c), ← otherB_apply]
    pointwise [k0_pay20]
  · rw [totals_512 A B _ i (off21_eq c), ← otherA_apply]
    pointwise [k0_pay19]
  · rw [totals_256 A B _ i (off10_eq c)]
    refine (show k0_pay18 (sent A B 8 (px c)) i = partB A B (px c) i by pointwise [k0_pay18, sent]).trans
      ((partB_eq A B _ i).trans ((sumB_apply A B _ i).trans ?_))
    rw [xb_px, yb_px]
  · rw [totals_256 A B _ i (off8_eq c)]
    refine (show k0_pay17 (sent A B 6 (py c)) i = partA A B (py c) i by pointwise [k0_pay17, sent]).trans
      ((partA_eq A B _ i).trans ((sumA_apply A B _ i).trans ?_))
    rw [xb_py, yb_py]
  · rw [totals_256 A B _ i (off20_eq c), sumB_apply]
  · rw [totals_256 A B _ i (off18_eq c), sumA_apply]

end Cert.Grid

end
-- ==== Proof.Equation.lean ====
/-
The reference multiplies rows of 16384 columns; the four devices hold 4096 of those columns each. The reference's product
is the sum of the devices' products.
-/
module

public import proofs.«01_k».proof.Proof.Value
public import proofs.«01_k».proof.Proof.Gen.ReferenceIdeal
public import Idealize.ShloMosaic.Lib.Layout

@[expose] public section

noncomputable section

namespace Cert.Grid

open Idealize.ShloMosaic Idealize.ShloMosaic.TcCoe

/-- The reference's result, as a function of its two arguments. -/
def reference (X Y : FVec Ideal Cert.ReferenceIdeal.S1024x16384 .f32) : FVec Ideal Cert.ReferenceIdeal.S1024x1024 .f32 :=
  Host.dotGeneral Cert.ReferenceIdeal.dot_S1024x16384_S16384x1024_S1024x1024_1_0_0_1_n_n none X
    (transpose Cert.ReferenceIdeal.S16384x1024 [1, 0] Y Cert.ReferenceIdeal.Facts₀.transposes_S1024x16384_S16384x1024_1_0)

/-- The reference holds the products of the rows of its arguments. -/
theorem reference_apply (X Y : FVec Ideal Cert.ReferenceIdeal.S1024x16384 .f32) (j : Cert.ReferenceIdeal.S1024x1024.Idx) :
    reference X Y j = ∑ k : Fin 16384, X (ix2 (j 0) k) * Y (ix2 (j 1) k) := by
  pointwise [reference]

/-- A device's block of an argument holds 4096 of its columns. -/
theorem block_ent (X : FVec Ideal Cert.ReferenceIdeal.S1024x16384 .f32) (c : Fin 4) (i : Fin 1024) (t : Fin 4096) :
    ent (Layout.block ⟨2, ![1024, 4096]⟩ ⟨2, ![1024, 16384]⟩ 1 4 c X) i.val t
      = X (ix2 i ⟨c.val * 4096 + t.val, by have := c.isLt; have := t.isLt; omega⟩) := by
  unfold ent
  rw [dif_pos i.isLt]
  refine congrArg X (funext fun a => Fin.ext ?_)
  fin_cases a <;> rfl

/-- The devices' totals are the reference's result. -/
theorem totals_eq (X Y : FVec Ideal Cert.ReferenceIdeal.S1024x16384 .f32) :
    totals (fun c => Layout.block ⟨2, ![1024, 4096]⟩ ⟨2, ![1024, 16384]⟩ 1 4 c X)
      (fun c => Layout.block ⟨2, ![1024, 4096]⟩ ⟨2, ![1024, 16384]⟩ 1 4 c Y) = reference X Y := by
  funext j
  rw [reference_apply, Fin.sum_univ_tiles 4 4096 rfl]
  unfold totals total dots
  refine Finset.sum_congr rfl fun c _ => Finset.sum_congr rfl fun t _ => ?_
  exact congrArg₂ (· * ·) (block_ent X c (j 0) t) (block_ent Y c (j 1) t)

end Cert.Grid

end
-- ==== Proof.Algebraic.lean ====
/-
The claims about the reference, and the claim that the kernel and the reference hold the same result.
-/
module

public import proofs.«01_k».proof.Proof.Frames
public import proofs.«01_k».proof.Proof.Equation
public import proofs.«01_k».proof.Proof.Gen.ReferenceIdeal.Run
public import Idealize.ShloMosaic.Adequacy
public import Idealize.ShloMosaic.Init

@[expose] public section

noncomputable section

namespace Cert.Grid

open Idealize.ShloMosaic Idealize.ShloMosaic.TcCoe Idealize.SL.Sem

/-- The reference runs, leaves its arguments and has no counter that could end above zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- When each device's operands are its blocks of `X` and `Y`, its result ends as the reference's result on `X` and `Y`. -/
theorem final_eq (m : (ℓ : Loc Cert.KernelIdeal.nD Cert.KernelIdeal.τ Cert.KernelIdeal.sig) → Buf (Elt Ideal) ℓ)
    (X Y : FVec Ideal Cert.ReferenceIdeal.S1024x16384 .f32)
    (hX : ∀ c : Dev Cert.KernelIdeal.nD, opA m c = Layout.block ⟨2, ![1024, 4096]⟩ ⟨2, ![1024, 16384]⟩ 1 4 c X)
    (hY : ∀ c : Dev Cert.KernelIdeal.nD, opB m c = Layout.block ⟨2, ![1024, 4096]⟩ ⟨2, ![1024, 16384]⟩ 1 4 c Y)
    (c : Dev Cert.KernelIdeal.nD) : final m c = reference X Y := by
  unfold final
  rw [result_totals, funext hX, funext hY]
  exact totals_eq X Y

/-- The kernel on four devices and the reference on one end with the same result. -/
theorem algebraic : Cert.algebraic_KernelIdeal_ReferenceIdeal := by
  intro m ρ m' ρ' _ hm
  refine ⟨reference (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h c).1.trans ?_, (h c).2⟩) (run_value (F := Ideal) m ρ)
    exact final_eq m _ _ (fun c => (opA_eq m c).trans (hm c).1) (fun c => (opB_eq m c).trans (hm c).2) c
  · exact (θ_run Cert.ReferenceIdeal.defs _ _).mono (fun _ h => h 0) (Cert.ReferenceIdeal.Value.run (F := Ideal) m' ρ')

end Cert.Grid

end
-- ==== Proof.lean ====
/-
The proof of `Cert.Claim` (Defs.lean): the kernel as printed, the kernel at the extended reals and the reference each run
and leave their arguments; the kernel's two readings are of one text; and the kernel on four devices ends with the
reference's result on every one of them.
-/
module

public import proofs.«01_k».proof.Defs
public import proofs.«01_k».proof.Proof.Algebraic
public import Idealize.ShloMosaic.Adequacy
public import Idealize.ShloMosaic.Init

@[expose] public section

noncomputable section

namespace Cert.Proof

/-- Every claim of this certificate. -/
theorem claim : Cert.Claim := ⟨Cert.Kernel.Gen.facts, Cert.KernelIdeal.Gen.facts, Cert.ReferenceIdeal.Gen.facts,
  Cert.Grid.frame_kernel, Cert.Grid.frame_kernelIdeal, Cert.Grid.frame_reference, trivial, Cert.Grid.algebraic⟩

end Cert.Proof

end
